-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_v69) = v3 c
          ∧ r.2.mem ((c.tc : Thread Cert.ReferenceIdeal.nD Cert.ReferenceIdeal.τ).loc Cert.ReferenceIdeal.main_v76) = v4 c
          ∧ r.2.mem ((c.tc : Thread Cert.ReferenceIdeal.nD Cert.ReferenceIdeal.τ).loc Cert.ReferenceIdeal.main_v97) = v5 c
          ∧ r.2.mem ((c.tc : Thread Cert.ReferenceIdeal.nD Cert.ReferenceIdeal.τ).loc Cert.ReferenceIdeal.main_v32) = v6 c
          ∧ r.2.mem ((c.tc : Thread Cert.ReferenceIdeal.nD Cert.ReferenceIdeal.τ).loc Cert.ReferenceIdeal.main_v46) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_bounded : Cert.Pre_bounded.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_pre_bounded (hKernelIdeal := hKernelIdeal) (hReferenceIdeal := hReferenceIdeal) (hPre_bounded := hPre_bounded)
-- ==== Pre_bounded.lean ====
abbrev S4x512x64 : Shape := ⟨3, ![4, 512, 64]⟩
abbrev S16x32x64 : Shape := ⟨3, ![16, 32, 64]⟩
abbrev S1x3500x1 : Shape := ⟨3, ![1, 3500, 1]⟩
abbrev S_ : Shape := ⟨0, ![]⟩

class Facts : Prop where
  bcast_S_S4x512x64 : S_.BroadcastsInDim S4x512x64 (![] : Fin 0 → Fin S4x512x64.rank)
  reducesTo_S4x512x64_S_d0_1_2 : S4x512x64.ReducesTo [0, 1, 2] S_
  h_S_ : 0 < S_.numel
  bcast_S_S16x32x64 : S_.BroadcastsInDim S16x32x64 (![] : Fin 0 → Fin S16x32x64.rank)
  reducesTo_S16x32x64_S_d0_1_2 : S16x32x64.ReducesTo [0, 1, 2] S_
  bcast_S_S1x3500x1 : S_.BroadcastsInDim S1x3500x1 (![] : Fin 0 → Fin S1x3500x1.rank)
  reducesTo_S1x3500x1_S_d0_1_2 : S1x3500x1.ReducesTo [0, 1, 2] S_

variable [Facts]

def fn {F : FTy → Type} [FloatOps F] (main_arg0 : FVec F S4x512x64 .f32) (main_arg1 : FVec F S16x32x64 .f32) (main_arg2 : FVec F S1x3500x1 .f32) : IVec S_ 1 :=
  let main_v0 : FVec F S4x512x64 .f32 := Host.absf main_arg0
  let main_cst : FVec F S_ .f32 := constant S_ .f32 0x49742400#32
  let main_v1 : FVec F S4x512x64 .f32 := broadcastInDim S4x512x64 ![] bcast_S_S4x512x64 main_cst
  let main_v2 : IVec S4x512x64 1 := cmpf .ole main_v0 main_v1
  let main_c : IVec S_ 1 := constantI S_ 1 1#1
  let main_v3 : IVec S_ 1 := (fun x v => Host.reduce IntOp.andi x v reducesTo_S4x512x64_S_d0_1_2 h_S_) main_v2 main_c
  let main_v4 : FVec F S16x32x64 .f32 := Host.absf main_arg1
  let main_cst_0 : FVec F S_ .f32 := constant S_ .f32 0x49742400#32
  let main_v5 : FVec F S16x32x64 .f32 := broadcastInDim S16x32x64 ![] bcast_S_S16x32x64 main_cst_0
  let main_v6 : IVec S16x32x64 1 := cmpf .ole main_v4 main_v5
  let main_c_1 : IVec S_ 1 := constantI S_ 1 1#1
  let main_v7 : IVec S_ 1 := (fun x v => Host.reduce IntOp.andi x v reducesTo_S16x32x64_S_d0_1_2 h_S_) main_v6 main_c_1
  let main_v8 : IVec S_ 1 := andi main_v3 main_v7
  let main_v9 : FVec F S1x3500x1 .f32 := Host.absf main_arg2
  let main_cst_2 : FVec F S_ .f32 := constant S_ .f32 0x49742400#32
  let main_v10 : FVec F S1x3500x1 .f32 := broadcastInDim S1x3500x1 ![] bcast_S_S1x3500x1 main_cst_2
  let main_v11 : IVec S1x3500x1 1 := cmpf .ole main_v9 main_v10
  let main_c_3 : IVec S_ 1 := constantI S_ 1 1#1
  let main_v12 : IVec S_ 1 := (fun x v => Host.reduce IntOp.andi x v reducesTo_S1x3500x1_S_d0_1_2 h_S_) main_v11 main_c_3
  let main_v13 : IVec S_ 1 := andi main_v8 main_v12
  main_v13
-- ==== Kernel.lean ====
abbrev S4x512x64 : Shape := ⟨3, ![4, 512, 64]⟩
abbrev S16x32x64 : Shape := ⟨3, ![16, 32, 64]⟩
abbrev S1x3500x1 : Shape := ⟨3, ![1, 3500, 1]⟩
abbrev S512x64 : Shape := ⟨2, ![512, 64]⟩
abbrev S1x512x1 : Shape := ⟨3, ![1, 512, 1]⟩
abbrev S512x1 : Shape := ⟨2, ![512, 1]⟩
abbrev S2048x512 : Shape := ⟨2, ![2048, 512]⟩
abbrev S4x512 : Shape := ⟨2, ![4, 512]⟩
abbrev S1x1 : Shape := ⟨2, ![1, 1]⟩
abbrev S_ : Shape := ⟨0, ![]⟩
abbrev S2048x64 : Shape := ⟨2, ![2048, 64]⟩
abbrev S2048x1 : Shape := ⟨2, ![2048, 1]⟩
abbrev S2048 : Shape := ⟨1, ![2048]⟩
abbrev S512 : Shape := ⟨1, ![512]⟩
abbrev S2048x66 : Shape := ⟨2, ![2048, 66]⟩
abbrev S512x66 : Shape := ⟨2, ![512, 66]⟩
abbrev S1x512 : Shape := ⟨2, ![1, 512]⟩
abbrev S1x2048x1 : Shape := ⟨3, ![1, 2048, 1]⟩
abbrev S1 : Shape := ⟨1, ![1]⟩
abbrev S1x1x1 : Shape := ⟨3, ![1, 1, 1]⟩
abbrev S512x512 : Shape := ⟨2, ![512, 512]⟩
abbrev S1x512x512 : Shape := ⟨3, ![1, 512, 512]⟩
abbrev S1x2048x64 : Shape := ⟨3, ![1, 2048, 64]⟩

abbrev nBuf : Space → Nat
  | .hbm => 19
  | .vmem => 11
  | .smem => 0
  | _ => 0

abbrev bufTy : (tb : Table) → Fin (tcTables nBuf tb) → BufTy
  | .hbm, ⟨0, _⟩ => ⟨S4x512x64, .f32⟩
  | .hbm, ⟨1, _⟩ => ⟨S16x32x64, .f32⟩
  | .hbm, ⟨2, _⟩ => ⟨S1x3500x1, .f32⟩
  | .hbm, ⟨3, _⟩ => ⟨S512x64, .f32⟩
  | .hbm, ⟨4, _⟩ => ⟨S1x512x1, .f32⟩
  | .hbm, ⟨5, _⟩ => ⟨S512x1, .f32⟩
  | .hbm, ⟨6, _⟩ => ⟨S4x512x64, .f32⟩
  | .hbm, ⟨7, _⟩ => ⟨S2048x512, .f32⟩
  | .hbm, ⟨8, _⟩ => ⟨S4x512, .i32⟩
  | .hbm, ⟨9, _⟩ => ⟨S1x1, .f32⟩
  | .hbm, ⟨10, _⟩ => ⟨S1x1, .f32⟩
  | .hbm, ⟨11, _⟩ => ⟨S1x1, .f32⟩
  | .hbm, ⟨12, _⟩ => ⟨S1x1, .f32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S4x512x64, .f32⟩
  | .local _ .vmem, ⟨1, _⟩ => ⟨S512x64, .f32⟩
  | .local _ .vmem, ⟨2, _⟩ => ⟨S512x1, .f32⟩
  | .local _ .vmem, ⟨3, _⟩ => ⟨S4x512x64, .f32⟩
  | .local _ .vmem, ⟨4, _⟩ => ⟨S2048x512, .f32⟩
  | .local _ .vmem, ⟨5, _⟩ => ⟨S4x512, .i32⟩
  | .local _ .vmem, ⟨6, _⟩ => ⟨S1x1, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | _, _ => ⟨S4x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0_0 : Ref sig .tc := ⟨.hbm, 6, rfl⟩
abbrev main_v0_6 : Ref sig .tc := ⟨.hbm, 7, rfl⟩
abbrev main_v0_7 : Ref sig .tc := ⟨.hbm, 8, rfl⟩
abbrev main_call0_v3_3 : Ref sig .tc := ⟨.hbm, 9, rfl⟩
abbrev main_call0_v3_4 : Ref sig .tc := ⟨.hbm, 10, rfl⟩
abbrev main_call0_v3_5 : Ref sig .tc := ⟨.hbm, 11, rfl⟩
abbrev main_call0_v3_6 : Ref sig .tc := ⟨.hbm, 12, rfl⟩
abbrev main_call0_v3_7 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S4x512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x512 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== ReferenceIdeal.lean ====
abbrev S4x512x64 : Shape := ⟨3, ![4, 512, 64]⟩
abbrev S16x32x64 : Shape := ⟨3, ![16, 32, 64]⟩
abbrev S1x3500x1 : Shape := ⟨3, ![1, 3500, 1]⟩
abbrev S1x512x1 : Shape := ⟨3, ![1, 512, 1]⟩
abbrev S2048x64 : Shape := ⟨2, ![2048, 64]⟩
abbrev S512x64 : Shape := ⟨2, ![512, 64]⟩
abbrev S2048x1x64 : Shape := ⟨3, ![2048, 1, 64]⟩
abbrev S1x512x64 : Shape := ⟨3, ![1, 512, 64]⟩
abbrev S2048x512x64 : Shape := ⟨3, ![2048, 512, 64]⟩
abbrev S_ : Shape := ⟨0, ![]⟩
abbrev S2048x512 : Shape := ⟨2, ![2048, 512]⟩
abbrev S2048 : Shape := ⟨1, ![2048]⟩
abbrev S2048x1 : Shape := ⟨2, ![2048, 1]⟩
abbrev S512 : Shape := ⟨1, ![512]⟩
abbrev S1x512 : Shape := ⟨2, ![1, 512]⟩
abbrev S4x512 : Shape := ⟨2, ![4, 512]⟩
abbrev S512x1x64 : Shape := ⟨3, ![512, 1, 64]⟩
abbrev S512x512x64 : Shape := ⟨3, ![512, 512, 64]⟩
abbrev S512x512 : Shape := ⟨2, ![512, 512]⟩
abbrev S4x511x64 : Shape := ⟨3, ![4, 511, 64]⟩
abbrev S4x511 : Shape := ⟨2, ![4, 511]⟩
abbrev S4x511x1 : Shape := ⟨3, ![4, 511, 1]⟩
abbrev S4x511x2 : Shape := ⟨3, ![4, 511, 2]⟩
abbrev S4 : Shape := ⟨1, ![4]⟩

abbrev nBuf : Space → Nat
  | .hbm => 249
  | .vmem => 0
  | .smem => 0
  | _ => 0

abbrev hbmTy0_0 (i : Nat) : BufTy := match i % 128 with
  | 0 => ⟨S4x512x64, .f32⟩
  | 1 => ⟨S16x32x64, .f32⟩
  | 2 => ⟨S1x3500x1, .f32⟩
  | 3 => ⟨S1x512x1, .f32⟩
  | 4 => ⟨S4x512x64, .f32⟩
  | 5 => ⟨S4x512x64, .f32⟩
  | 6 => ⟨S2048x64, .f32⟩
  | 7 => ⟨S512x64, .f32⟩
  | 8 => ⟨S2048x1x64, .f32⟩
  | 9 => ⟨S1x512x64, .f32⟩
  | 10 => ⟨S2048x512x64, .f32⟩
  | 11 => ⟨S2048x512x64, .f32⟩
  | 12 => ⟨S2048x512x64, .f32⟩
  | 13 => ⟨S2048x512x64, .f32⟩
  | 14 => ⟨S_, .f32⟩
  | 15 => ⟨S2048x512, .f32⟩
  | 16 => ⟨S_, .f32⟩
  | 17 => ⟨S2048x512, .f32⟩
  | 18 => ⟨S2048x512, .i1⟩
  | 19 => ⟨S_, .f32⟩
  | 20 => ⟨S_, .f32⟩
  | 21 => ⟨S2048x512, .f32⟩
  | 22 => ⟨S2048x512, .f32⟩
  | 23 => ⟨S_, .f32⟩
  | 24 => ⟨S2048x512, .f32⟩
  | 25 => ⟨S2048x512, .i1⟩
  | 26 => ⟨S2048x512, .f32⟩
  | 27 => ⟨S_, .f32⟩
  | 28 => ⟨S_, .f32⟩
  | 29 => ⟨S2048x512, .f32⟩
  | 30 => ⟨S2048x512, .f32⟩
  | 31 => ⟨S_, .f32⟩
  | 32 => ⟨S2048x512, .f32⟩
  | 33 => ⟨S2048x512, .f32⟩
  | 34 => ⟨S_, .f32⟩
  | 35 => ⟨S2048x512, .f32⟩
  | 36 => ⟨S2048x512, .f32⟩
  | 37 => ⟨S_, .f32⟩
  | 38 => ⟨S2048x512, .f32⟩
  | 39 => ⟨S2048x512, .f32⟩
  | 40 => ⟨S_, .f32⟩
  | 41 => ⟨S2048x512, .f32⟩
  | 42 => ⟨S2048x512, .f32⟩
  | 43 => ⟨S2048x512, .f32⟩
  | 44 => ⟨S_, .f32⟩
  | 45 => ⟨S2048, .f32⟩
  | 46 => ⟨S2048x1, .f32⟩
  | 47 => ⟨S_, .f32⟩
  | 48 => ⟨S_, .f32⟩
  | 49 => ⟨S2048x1, .f32⟩
  | 50 => ⟨S2048x1, .f32⟩
  | 51 => ⟨S2048x512, .f32⟩
  | 52 => ⟨S2048x512, .f32⟩
  | 53 => ⟨S2048x512, .f32⟩
  | 54 => ⟨S2048x512, .f32⟩
  | 55 => ⟨S_, .f32⟩
  | 56 => ⟨S512, .f32⟩
  | 57 => ⟨S1x512, .f32⟩
  | 58 => ⟨S2048x512, .f32⟩
  | 59 => ⟨S2048x512, .f32⟩
  | 60 => ⟨S2048x512, .f32⟩
  | 61 => ⟨S_, .f32⟩
  | 62 => ⟨S2048, .f32⟩
  | 63 => ⟨S2048x1, .f32⟩
  | 64 => ⟨S_, .f32⟩
  | 65 => ⟨S_, .f32⟩
  | 66 => ⟨S2048x1, .f32⟩
  | 67 => ⟨S2048x1, .f32⟩
  | 68 => ⟨S2048x512, .f32⟩
  | 69 => ⟨S2048x512, .f32⟩
  | 70 => ⟨S2048x512, .i32⟩
  | 71 => ⟨S_, .f32⟩
  | 72 => ⟨S_, .i32⟩
  | 73 => ⟨S2048, .f32⟩
  | 74 => ⟨S2048, .i32⟩
  | 75 => ⟨S4x512, .i32⟩
  | 76 => ⟨S2048x512, .f32⟩
  | 77 => ⟨S2048x512, .f32⟩
  | 78 => ⟨S2048x512, .f32⟩
  | 79 => ⟨S2048x512, .f32⟩
  | 80 => ⟨S_, .f32⟩
  | 81 => ⟨S_, .f32⟩
  | 82 => ⟨S_, .f32⟩
  | 83 => ⟨S_, .f32⟩
  | 84 => ⟨S1x512x64, .f32⟩
  | 85 => ⟨S512x1x64, .f32⟩
  | 86 => ⟨S512x512x64, .f32⟩
  | 87 => ⟨S512x512x64, .f32⟩
  | 88 => ⟨S512x512x64, .f32⟩
  | 89 => ⟨S512x512x64, .f32⟩
  | 90 => ⟨S_, .f32⟩
  | 91 => ⟨S512x512, .f32⟩
  | 92 => ⟨S_, .f32⟩
  | 93 => ⟨S512x512, .f32⟩
  | 94 => ⟨S512x512, .i1⟩
  | 95 => ⟨S_, .f32⟩
  | 96 => ⟨S_, .f32⟩
  | 97 => ⟨S512x512, .f32⟩
  | 98 => ⟨S512x512, .f32⟩
  | 99 => ⟨S_, .f32⟩
  | 100 => ⟨S512x512, .f32⟩
  | 101 => ⟨S512x512, .i1⟩
  | 102 => ⟨S512x512, .f32⟩
  | 103 => ⟨S_, .f32⟩
  | 104 => ⟨S_, .f32⟩
  | 105 => ⟨S512x512, .f32⟩
  | 106 => ⟨S512x512, .f32⟩
  | 107 => ⟨S_, .f32⟩
  | 108 => ⟨S_, .f32⟩
  | 109 => ⟨S_, .f32⟩
  | 110 => ⟨S_, .f32⟩
  | 111 => ⟨S_, .f32⟩
  | 112 => ⟨S4x511x64, .f32⟩
  | 113 => ⟨S4x511x64, .f32⟩
  | 114 => ⟨S4x511x64, .f32⟩
  | 115 => ⟨S4x511x64, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S4x511, .i32⟩
  | 123 => ⟨S4x511, .i32⟩
  | 124 => ⟨S_, .i32⟩
  | 125 => ⟨S_, .i32⟩
  | 126 => ⟨S4x511, .i32⟩
  | 127 => ⟨S4x511, .i32⟩
  | _ => ⟨S4x512x64, .f32⟩

abbrev hbmTy0_1 (i : Nat) : BufTy := match i % 128 with
  | 0 => ⟨S4x511, .i32⟩
  | 1 => ⟨S_, .i32⟩
  | 2 => ⟨S4x511, .i32⟩
  | 3 => ⟨S4x511, .i1⟩
  | 4 => ⟨S4x511, .i32⟩
  | 5 => ⟨S4x511, .i32⟩
  | 6 => ⟨S_, .i32⟩
  | 7 => ⟨S4x511, .i32⟩
  | 8 => ⟨S4x511, .i1⟩
  | 9 => ⟨S4x511, .i1⟩
  | 10 => ⟨S_, .i32⟩
  | 11 => ⟨S4x511, .i32⟩
  | 12 => ⟨S4x511, .i32⟩
  | 13 => ⟨S4x511, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S4x511, .i32⟩
  | 21 => ⟨S4x511, .i32⟩
  | 22 => ⟨S_, .i32⟩
  | 23 => ⟨S4x511, .i32⟩
  | 24 => ⟨S4x511, .i1⟩
  | 25 => ⟨S_, .i32⟩
  | 26 => ⟨S4x511, .i32⟩
  | 27 => ⟨S4x511, .i1⟩
  | 28 => ⟨S_, .i32⟩
  | 29 => ⟨S_, .i1⟩
  | 30 => ⟨S4x511, .i1⟩
  | 31 => ⟨S4x511, .i1⟩
  | 32 => ⟨S4x511, .i1⟩
  | 33 => ⟨S4x511, .i32⟩
  | 34 => ⟨S4x511, .i32⟩
  | 35 => ⟨S4x511, .i32⟩
  | 36 => ⟨S4x511x1, .i32⟩
  | 37 => ⟨S4x511x1, .i32⟩
  | 38 => ⟨S4x511x2, .i32⟩
  | 39 => ⟨S_, .i32⟩
  | 40 => ⟨S_, .i32⟩
  | 41 => ⟨S4x511, .i32⟩
  | 42 => ⟨S4x511, .i32⟩
  | 43 => ⟨S4x511, .i32⟩
  | 44 => ⟨S_, .i32⟩
  | 45 => ⟨S4x511, .i32⟩
  | 46 => ⟨S4x511, .i1⟩
  | 47 => ⟨S4x511, .i32⟩
  | 48 => ⟨S4x511, .i32⟩
  | 49 => ⟨S_, .i32⟩
  | 50 => ⟨S4x511, .i32⟩
  | 51 => ⟨S4x511, .i1⟩
  | 52 => ⟨S4x511, .i1⟩
  | 53 => ⟨S_, .i32⟩
  | 54 => ⟨S4x511, .i32⟩
  | 55 => ⟨S4x511, .i32⟩
  | 56 => ⟨S4x511, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S4x511, .i32⟩
  | 64 => ⟨S4x511, .i32⟩
  | 65 => ⟨S_, .i32⟩
  | 66 => ⟨S4x511, .i32⟩
  | 67 => ⟨S4x511, .i1⟩
  | 68 => ⟨S_, .i32⟩
  | 69 => ⟨S4x511, .i32⟩
  | 70 => ⟨S4x511, .i1⟩
  | 71 => ⟨S_, .i32⟩
  | 72 => ⟨S_, .i1⟩
  | 73 => ⟨S4x511, .i1⟩
  | 74 => ⟨S4x511, .i1⟩
  | 75 => ⟨S4x511, .i1⟩
  | 76 => ⟨S4x511, .i32⟩
  | 77 => ⟨S4x511, .i32⟩
  | 78 => ⟨S4x511, .i32⟩
  | 79 => ⟨S4x511x1, .i32⟩
  | 80 => ⟨S4x511x1, .i32⟩
  | 81 => ⟨S4x511x2, .i32⟩
  | 82 => ⟨S4x511x2, .i32⟩
  | 83 => ⟨S4x511x2, .i32⟩
  | 84 => ⟨S_, .i32⟩
  | 85 => ⟨S4x511, .i32⟩
  | 86 => ⟨S4x511, .f32⟩
  | 87 => ⟨S_, .f32⟩
  | 88 => ⟨S4, .f32⟩
  | 89 => ⟨S_, .f32⟩
  | 90 => ⟨S4, .f32⟩
  | 91 => ⟨S4, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S2048, .i32⟩
  | 106 => ⟨S_, .i32⟩
  | 107 => ⟨S2048, .i32⟩
  | 108 => ⟨S2048, .i1⟩
  | 109 => ⟨S_, .i32⟩
  | 110 => ⟨S2048, .i32⟩
  | 111 => ⟨S2048, .i32⟩
  | 112 => ⟨S2048, .i32⟩
  | 113 => ⟨S2048x1, .i32⟩
  | 114 => ⟨S2048x64, .f32⟩
  | 115 => ⟨S4x512x64, .f32⟩
  | 116 => ⟨S4x512x64, .f32⟩
  | 117 => ⟨S_, .f32⟩
  | 118 => ⟨S4x512x64, .f32⟩
  | 119 => ⟨S4x512x64, .f32⟩
  | 120 => ⟨S4x512x64, .f32⟩
  | _ => ⟨S4x512x64, .f32⟩

abbrev hbmTy (i : Nat) : BufTy := match i / 128 with
  | 0 => hbmTy0_0 i
  | 1 => hbmTy0_1 i
  | _ => ⟨S4x512x64, .f32⟩

abbrev bufTy : (tb : Table) → Fin (tcTables nBuf tb) → BufTy
  | .hbm, ⟨i, _⟩ => hbmTy i
  | _, _ => ⟨S4x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_call1_v0 : Ref sig .tc := ⟨.hbm, 28, rfl⟩
abbrev main_call1_v1 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩
abbrev main_cst_9 : Ref sig .tc := ⟨.hbm, 47, rfl⟩
abbrev main_call2_v0 : Ref sig .tc := ⟨.hbm, 48, rfl⟩
abbrev main_call2_v1 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_10 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_11 : Ref sig .tc := ⟨.hbm, 61, rfl⟩
abbrev main_v40 : Ref sig .tc := ⟨.hbm, 62, rfl⟩
abbrev main_v41 : Ref sig .tc := ⟨.hbm, 63, rfl⟩
abbrev main_cst_12 : Ref sig .tc := ⟨.hbm, 64, rfl⟩
abbrev main_call3_v0 : Ref sig .tc := ⟨.hbm, 65, rfl⟩
abbrev main_call3_v1 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call4_v0 : Ref sig .tc := ⟨.hbm, 70, rfl⟩
abbrev main_call4_cst : Ref sig .tc := ⟨.hbm, 71, rfl⟩
abbrev main_call4_c : Ref sig .tc := ⟨.hbm, 72, rfl⟩
abbrev main_call4_v1_0 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_13 : Ref sig .tc := ⟨.hbm, 80, rfl⟩
abbrev main_v51 : Ref sig .tc := ⟨.hbm, 81, rfl⟩
abbrev main_cst_14 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_15 : Ref sig .tc := ⟨.hbm, 90, rfl⟩
abbrev main_v59 : Ref sig .tc := ⟨.hbm, 91, rfl⟩
abbrev main_cst_16 : Ref sig .tc := ⟨.hbm, 92, rfl⟩
abbrev main_v60 : Ref sig .tc := ⟨.hbm, 93, rfl⟩
abbrev main_v61 : Ref sig .tc := ⟨.hbm, 94, rfl⟩
abbrev main_cst_17 : Ref sig .tc := ⟨.hbm, 95, rfl⟩
abbrev main_call5_v0 : Ref sig .tc := ⟨.hbm, 96, rfl⟩
abbrev main_call5_v1 : Ref sig .tc := ⟨.hbm, 97, rfl⟩
abbrev main_v62 : Ref sig .tc := ⟨.hbm, 98, rfl⟩
abbrev main_cst_18 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_19 : Ref sig .tc := ⟨.hbm, 103, rfl⟩
abbrev main_call6_v0 : Ref sig .tc := ⟨.hbm, 104, rfl⟩
abbrev main_call6_v1 : Ref sig .tc := ⟨.hbm, 105, rfl⟩
abbrev main_v66 : Ref sig .tc := ⟨.hbm, 106, rfl⟩
abbrev main_cst_20 : Ref sig .tc := ⟨.hbm, 107, rfl⟩
abbrev main_v67 : Ref sig .tc := ⟨.hbm, 108, rfl⟩
abbrev main_cst_21 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_22 : Ref sig .tc := ⟨.hbm, 116, rfl⟩
abbrev main_v74 : Ref sig .tc := ⟨.hbm, 117, rfl⟩
abbrev main_cst_23 : Ref sig .tc := ⟨.hbm, 118, rfl⟩
abbrev main_v75 : Ref sig .tc := ⟨.hbm, 119, rfl⟩
abbrev main_cst_24 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_c : Ref sig .tc := ⟨.hbm, 124, rfl⟩
abbrev main_call7_v0 : Ref sig .tc := ⟨.hbm, 125, rfl⟩
abbrev main_call7_v1 : Ref sig .tc := ⟨.hbm, 126, rfl⟩
abbrev main_call7_v2 : Ref sig .tc := ⟨.hbm, 127, rfl⟩
abbrev main_call7_v3 : Ref sig .tc := ⟨.hbm, 128, rfl⟩
abbrev main_call7_v4 : Ref sig .tc := ⟨.hbm, 129, rfl⟩
abbrev main_call7_v5 : Ref sig .tc := ⟨.hbm, 130, rfl⟩
abbrev main_call7_v6 : Ref sig .tc := ⟨.hbm, 131, rfl⟩
abbrev main_call7_v7 : Ref sig .tc := ⟨.hbm, 132, rfl⟩
abbrev main_call7_v8 : Ref sig .tc := ⟨.hbm, 133, rfl⟩
abbrev main_call7_c : Ref sig .tc := ⟨.hbm, 134, rfl⟩
abbrev main_call7_v9 : Ref sig .tc := ⟨.hbm, 135, rfl⟩
abbrev main_call7_v10 : Ref sig .tc := ⟨.hbm, 136, rfl⟩
abbrev main_call7_v11 : Ref sig .tc := ⟨.hbm, 137, rfl⟩
abbrev main_call7_c_0 : Ref sig .tc := ⟨.hbm, 138, rfl⟩
abbrev main_call7_v12 : Ref sig .tc := ⟨.hbm, 139, rfl⟩
abbrev main_call7_v13 : Ref sig .tc := ⟨.hbm, 140, rfl⟩
abbrev main_v79 : Ref sig .tc := ⟨.hbm, 141, rfl⟩
abbrev main_c_25 : Ref sig .tc := ⟨.hbm, 142, rfl⟩
abbrev main_call8_v0 : Ref sig .tc := ⟨.hbm, 143, rfl⟩
abbrev main_call8_c : Ref sig .tc := ⟨.hbm, 144, rfl⟩
abbrev main_call8_v1 : Ref sig .tc := ⟨.hbm, 145, rfl⟩
abbrev main_call8_c_0 : Ref sig .tc := ⟨.hbm, 146, rfl⟩
abbrev main_call8_v2 : Ref sig .tc := ⟨.hbm, 147, rfl⟩
abbrev main_call8_v3 : Ref sig .tc := ⟨.hbm, 148, rfl⟩
abbrev main_call8_v4 : Ref sig .tc := ⟨.hbm, 149, rfl⟩
abbrev main_call8_c_1 : Ref sig .tc := ⟨.hbm, 150, rfl⟩
abbrev main_call8_v5 : Ref sig .tc := ⟨.hbm, 151, rfl⟩
abbrev main_call8_v6 : Ref sig .tc := ⟨.hbm, 152, rfl⟩
abbrev main_call8_c_2 : Ref sig .tc := ⟨.hbm, 153, rfl⟩
abbrev main_call8_v7 : Ref sig .tc := ⟨.hbm, 154, rfl⟩
abbrev main_call8_v8 : Ref sig .tc := ⟨.hbm, 155, rfl⟩
abbrev main_call8_c_3 : Ref sig .tc := ⟨.hbm, 156, rfl⟩
abbrev main_call8_v9 : Ref sig .tc := ⟨.hbm, 157, rfl⟩
abbrev main_call8_v10 : Ref sig .tc := ⟨.hbm, 158, rfl⟩
abbrev main_call8_v11 : Ref sig .tc := ⟨.hbm, 159, rfl⟩
abbrev main_call8_v12 : Ref sig .tc := ⟨.hbm, 160, rfl⟩
abbrev main_call8_v13 : Ref sig .tc := ⟨.hbm, 161, rfl⟩
abbrev main_call8_v14 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_c_26 : Ref sig .tc := ⟨.hbm, 167, rfl⟩
abbrev main_call9_v0 : Ref sig .tc := ⟨.hbm, 168, rfl⟩
abbrev main_call9_v1 : Ref sig .tc := ⟨.hbm, 169, rfl⟩
abbrev main_call9_v2 : Ref sig .tc := ⟨.hbm, 170, rfl⟩
abbrev main_call9_v3 : Ref sig .tc := ⟨.hbm, 171, rfl⟩
abbrev main_call9_v4 : Ref sig .tc := ⟨.hbm, 172, rfl⟩
abbrev main_call9_v5 : Ref sig .tc := ⟨.hbm, 173, rfl⟩
abbrev main_call9_v6 : Ref sig .tc := ⟨.hbm, 174, rfl⟩
abbrev main_call9_v7 : Ref sig .tc := ⟨.hbm, 175, rfl⟩
abbrev main_call9_v8 : Ref sig .tc := ⟨.hbm, 176, rfl⟩
abbrev main_call9_c : Ref sig .tc := ⟨.hbm, 177, rfl⟩
abbrev main_call9_v9 : Ref sig .tc := ⟨.hbm, 178, rfl⟩
abbrev main_call9_v10 : Ref sig .tc := ⟨.hbm, 179, rfl⟩
abbrev main_call9_v11 : Ref sig .tc := ⟨.hbm, 180, rfl⟩
abbrev main_call9_c_0 : Ref sig .tc := ⟨.hbm, 181, rfl⟩
abbrev main_call9_v12 : Ref sig .tc := ⟨.hbm, 182, rfl⟩
abbrev main_call9_v13 : Ref sig .tc := ⟨.hbm, 183, rfl⟩
abbrev main_v84 : Ref sig .tc := ⟨.hbm, 184, rfl⟩
abbrev main_c_27 : Ref sig .tc := ⟨.hbm, 185, rfl⟩
abbrev main_call10_v0 : Ref sig .tc := ⟨.hbm, 186, rfl⟩
abbrev main_call10_c : Ref sig .tc := ⟨.hbm, 187, rfl⟩
abbrev main_call10_v1 : Ref sig .tc := ⟨.hbm, 188, rfl⟩
abbrev main_call10_c_0 : Ref sig .tc := ⟨.hbm, 189, rfl⟩
abbrev main_call10_v2 : Ref sig .tc := ⟨.hbm, 190, rfl⟩
abbrev main_call10_v3 : Ref sig .tc := ⟨.hbm, 191, rfl⟩
abbrev main_call10_v4 : Ref sig .tc := ⟨.hbm, 192, rfl⟩
abbrev main_call10_c_1 : Ref sig .tc := ⟨.hbm, 193, rfl⟩
abbrev main_call10_v5 : Ref sig .tc := ⟨.hbm, 194, rfl⟩
abbrev main_call10_v6 : Ref sig .tc := ⟨.hbm, 195, rfl⟩
abbrev main_call10_c_2 : Ref sig .tc := ⟨.hbm, 196, rfl⟩
abbrev main_call10_v7 : Ref sig .tc := ⟨.hbm, 197, rfl⟩
abbrev main_call10_v8 : Ref sig .tc := ⟨.hbm, 198, rfl⟩
abbrev main_call10_c_3 : Ref sig .tc := ⟨.hbm, 199, rfl⟩
abbrev main_call10_v9 : Ref sig .tc := ⟨.hbm, 200, rfl⟩
abbrev main_call10_v10 : Ref sig .tc := ⟨.hbm, 201, rfl⟩
abbrev main_call10_v11 : Ref sig .tc := ⟨.hbm, 202, rfl⟩
abbrev main_call10_v12 : Ref sig .tc := ⟨.hbm, 203, rfl⟩
abbrev main_call10_v13 : Ref sig .tc := ⟨.hbm, 204, rfl⟩
abbrev main_call10_v14 : Ref sig .tc := ⟨.hbm, 205, rfl⟩
abbrev main_v85 : Ref sig .tc := ⟨.hbm, 206, rfl⟩
abbrev main_v86 : Ref sig .tc := ⟨.hbm, 207, rfl⟩
abbrev main_v87 : Ref sig .tc := ⟨.hbm, 208, rfl⟩
abbrev main_v88 : Ref sig .tc := ⟨.hbm, 209, rfl⟩
abbrev main_v89 : Ref sig .tc := ⟨.hbm, 210, rfl⟩
abbrev main_v90 : Ref sig .tc := ⟨.hbm, 211, rfl⟩
abbrev main_c_28 : Ref sig .tc := ⟨.hbm, 212, rfl⟩
abbrev main_v91 : Ref sig .tc := ⟨.hbm, 213, rfl⟩
abbrev main_v92 : Ref sig .tc := ⟨.hbm, 214, rfl⟩
abbrev main_cst_29 : Ref sig .tc := ⟨.hbm, 215, rfl⟩
abbrev main_v93 : Ref sig .tc := ⟨.hbm, 216, rfl⟩
abbrev main_cst_30 : Ref sig .tc := ⟨.hbm, 217, rfl⟩
abbrev main_v94 : Ref sig .tc := ⟨.hbm, 218, rfl⟩
abbrev main_v95 : Ref sig .tc := ⟨.hbm, 219, rfl⟩
abbrev main_cst_31 : Ref sig .tc := ⟨.hbm, 220, rfl⟩
abbrev main_v96 : Ref sig .tc := ⟨.hbm, 221, rfl⟩
abbrev main_cst_32 : Ref sig .tc := ⟨.hbm, 222, rfl⟩
abbrev main_v97 : Ref sig .tc := ⟨.hbm, 223, rfl⟩
abbrev main_cst_33 : Ref sig .tc := ⟨.hbm, 224, rfl⟩
abbrev main_v98 : Ref sig .tc := ⟨.hbm, 225, rfl⟩
abbrev main_v99 : Ref sig .tc := ⟨.hbm, 226, rfl⟩
abbrev main_cst_34 : Ref sig .tc := ⟨.hbm, 227, rfl⟩
abbrev main_v100 : Ref sig .tc := ⟨.hbm, 228, rfl⟩
abbrev main_v101 : Ref sig .tc := ⟨.hbm, 229, rfl⟩
abbrev main_cst_35 : Ref sig .tc := ⟨.hbm, 230, rfl⟩
abbrev main_v102 : Ref sig .tc := ⟨.hbm, 231, rfl⟩
abbrev main_v103 : Ref sig .tc := ⟨.hbm, 232, rfl⟩
abbrev main_v104 : Ref sig .tc := ⟨.hbm, 233, rfl⟩
abbrev main_c_36 : Ref sig .tc := ⟨.hbm, 234, rfl⟩
abbrev main_v105 : Ref sig .tc := ⟨.hbm, 235, rfl⟩
abbrev main_v106 : Ref sig .tc := ⟨.hbm, 236, rfl⟩
abbrev main_c_37 : Ref sig .tc := ⟨.hbm, 237, rfl⟩
abbrev main_v107 : Ref sig .tc := ⟨.hbm, 238, rfl⟩
abbrev main_v108 : Ref sig .tc := ⟨.hbm, 239, rfl⟩
abbrev main_v109 : Ref sig .tc := ⟨.hbm, 240, rfl⟩
abbrev main_v110 : Ref sig .tc := ⟨.hbm, 241, rfl⟩
abbrev main_v111 : Ref sig .tc := ⟨.hbm, 242, rfl⟩
abbrev main_v112 : Ref sig .tc := ⟨.hbm, 243, rfl⟩
abbrev main_v113 : Ref sig .tc := ⟨.hbm, 244, rfl⟩
abbrev main_cst_38 : Ref sig .tc := ⟨.hbm, 245, rfl⟩
abbrev main_v114 : Ref sig .tc := ⟨.hbm, 246, rfl⟩
abbrev main_v115 : Ref sig .tc := ⟨.hbm, 247, rfl⟩
abbrev main_v116 : Ref sig .tc := ⟨.hbm, 248, rfl⟩

abbrev nD : Nat := 1
abbrev τ : Topo := Topo.v7x

variable {F : FTy → Type} [FloatOps F]
-- ==== Proof.RefOps.lean ====
/-
  The reference program's operations, in order, cut into twelve windows, each ending at a value the mathematics has a name for.
  Each window only touches TensorCore buffers, writes the buffers its list names and allocates nothing (`Plain`), so
  every other buffer keeps its contents through it.
-/
module

public import proofs.«01_k».proof.Proof.Gen.ReferenceIdeal
public import Idealize.ShloMosaic.Lib.StableHlo.Run

@[expose] public section

set_option maxRecDepth 16384

noncomputable section

namespace Cert.Proof.RefOps

open Cert.ReferenceIdeal Cert.ReferenceIdeal.Gen
open Idealize.ShloMosaic Idealize.ShloMosaic.TcCoe Idealize.ShloMosaic.StableHlo Idealize.SL.Sem

variable {F : FTy → Type} [FloatOps F]

/-- The index half of the reduction that finds each row's least entry: a function of the array, the column numbers and
    the two starting values, named so that its operands are plain arguments. -/
def argminIdx (x : FVec F S2048x512 .f32) (y : IVec S2048x512 32) (u : FVec F S_ .f32) (v : IVec S_ 32) : IVec S2048 32 :=
  fun j => (Host.argReduce reducer_argmin_f32_i32 x y u v reducesTo_S2048x512_S2048_d1 h_S_ j).2

/-- Two (4, 511) arrays of integers, side by side along a last axis of length two. -/
def pairUp (a b : IVec S4x511x1 32) : IVec S4x511x2 32 :=
  concatenate S4x511x2 2 [⟨S4x511x1, a⟩, ⟨S4x511x1, b⟩] concatenates_S4x511x1_S4x511x1_S4x511x2_d2

/-- What the run asks of a stretch of operations: TensorCore buffers only, nothing allocated, and only the buffers of
    the list `W` written. -/
def Plain (ops : List (HloOp τ sig (Elt F))) (W : List (Ref sig .tc)) : Prop :=
  (ops.Forall fun op => op.bufs ⊆ tcRefs τ sig) ∧ (ops.Forall fun op => op.fresh = ∅)
    ∧ ops.Forall fun op => op.writes ⊆ (W.map (Proc.devRef (τ := τ) .tc)).toFinset

/-- The flat map of nodes and the distances of every row from every node. -/
abbrev opsW1 : List (HloOp τ sig (Elt F)) :=
  [ unary main_arg2 main_v0 (extractStridedSlice S1x512x1 ![0, 2988, 0] · slices_S1x3500x1_S1x512x1_0_2988_0),
    unary main_v0 main_v1 (broadcastInDim S4x512x64 ![0, 1, 2] bcast_S1x512x1_S4x512x64_0_1_2),
    binary main_arg0 main_v1 main_v2 mulf,
    reshape main_v2 main_v3 (rfl : (.f32 : EltTy) = .f32) shapeCasts_S4x512x64_S2048x64,
    reshape main_arg1 main_v4 (rfl : (.f32 : EltTy) = .f32) shapeCasts_S16x32x64_S512x64,
    unary main_v3 main_v5 (broadcastInDim S2048x1x64 ![0, 2] bcast_S2048x64_S2048x1x64_0_2),
    unary main_v4 main_v6 (broadcastInDim S1x512x64 ![1, 2] bcast_S512x64_S1x512x64_1_2),
    unary main_v5 main_v7 (broadcastInDim S2048x512x64 ![0, 1, 2] bcast_S2048x1x64_S2048x512x64_0_1_2),
    unary main_v6 main_v8 (broadcastInDim S2048x512x64 ![0, 1, 2] bcast_S1x512x64_S2048x512x64_0_1_2),
    binary main_v7 main_v8 main_v9 subf,
    binary main_v9 main_v9 main_v10 mulf,
    nullary main_cst (constant S_ .f32 0x00000000#32),
    binary main_v10 main_cst main_v11 (fun x v => Host.reduceAdd x v reducesTo_S2048x512x64_S2048x512_d2 h_S_),
    nullary main_cst_0 (constant S_ .f32 0x00000000#32),
    unary main_cst_0 main_v12 (broadcastInDim S2048x512 ![] bcast_S_S2048x512),
    binary main_v11 main_v12 main_v13 (cmpf .oeq),
    nullary main_cst_1 (constant S_ .f32 0x3F800000#32),
    unary main_cst_1 main_call0_v0 id,
    unary main_call0_v0 main_call0_v1 (broadcastInDim S2048x512 ![] bcast_S_S2048x512),
    ternary main_v13 main_call0_v1 main_v11 main_v14 select,
    nullary main_cst_2 (constant S_ .f32 0x00000000#32),
    unary main_cst_2 main_v15 (broadcastInDim S2048x512 ![] bcast_S_S2048x512),
    binary main_v11 main_v15 main_v16 (cmpf .oeq),
    unary main_v14 main_v17 Host.sqrt,
    nullary main_cst_3 (constant S_ .f32 0x00000000#32),
    unary main_cst_3 main_call1_v0 id,
    unary main_call1_v0 main_call1_v1 (broadcastInDim S2048x512 ![] bcast_S_S2048x512),
    ternary main_v16 main_call1_v1 main_v17 main_v18 select ]

/-- The buffers of that window. -/
abbrev outW1 : List (Ref sig .tc) :=
  [main_v0, main_v1, main_v2, main_v3, main_v4, main_v5, main_v6, main_v7, main_v8, main_v9, main_v10, main_cst, main_v11, main_cst_0, main_v12, main_v13, main_cst_1, main_call0_v0, main_call0_v1, main_v14, main_cst_2, main_v15, main_v16, main_v17, main_cst_3, main_call1_v0, main_call1_v1, main_v18]

/-- The soft assignments. -/
abbrev opsW2 : List (HloOp τ sig (Elt F)) :=
  [ nullary main_cst_4 (constant S_ .f32 0x3F800000#32),
    unary main_cst_4 main_v19 (broadcastInDim S2048x512 ![] bcast_S_S2048x512),
    binary main_v18 main_v19 main_v20 Host.divf,
    nullary main_cst_5 (constant S_ .f32 0x3F800000#32),
    unary main_cst_5 main_v21 (broadcastInDim S2048x512 ![] bcast_S_S2048x512),
    binary main_v21 main_v20 main_v22 addf,
    nullary main_cst_6 (constant S_ .f32 0x3F800000#32),
    unary main_cst_6 main_v23 (broadcastInDim S2048x512 ![] bcast_S_S2048x512),
    binary main_v22 main_v23 main_v24 Host.powf,
    nullary main_cst_7 (constant S_ .f32 0x3F800000#32),
    unary main_cst_7 main_v25 (broadcastInDim S2048x512 ![] bcast_S_S2048x512),
    binary main_v25 main_v24 main_v26 Host.divf,
    unary main_v26 main_v27 Host.absf,
    nullary main_cst_8 (constant S_ .f32 0x00000000#32),
    binary main_v27 main_cst_8 main_v28 (fun x v => Host.reduceAdd x v reducesTo_S2048x512_S2048_d1 h_S_),
    unary main_v28 main_v29 (broadcastInDim S2048x1 ![0] bcast_S2048_S2048x1_0),
    nullary main_cst_9 (constant S_ .f32 0x2B8CBCCC#32),
    unary main_cst_9 main_call2_v0 id,
    unary main_call2_v0 main_call2_v1 (broadcastInDim S2048x1 ![] bcast_S_S2048x1),
    binary main_call2_v1 main_v29 main_v30 maximumf,
    unary main_v30 main_v31 (broadcastInDim S2048x512 ![0, 1] bcast_S2048x1_S2048x512_0_1),
    binary main_v26 main_v31 main_v32 Host.divf ]

/-- The buffers of that window. -/
abbrev outW2 : List (Ref sig .tc) :=
  [main_cst_4, main_v19, main_v20, main_cst_5, main_v21, main_v22, main_cst_6, main_v23, main_v24, main_cst_7, main_v25, main_v26, main_v27, main_cst_8, main_v28, main_v29, main_cst_9, main_call2_v0, main_call2_v1, main_v30, main_v31, main_v32]

/-- The sharpened assignments. -/
abbrev opsW3 : List (HloOp τ sig (Elt F)) :=
  [ binary main_v32 main_v32 main_v33 mulf,
    binary main_v32 main_v32 main_v34 mulf,
    nullary main_cst_10 (constant S_ .f32 0x00000000#32),
    binary main_v34 main_cst_10 main_v35 (fun x v => Host.reduceAdd x v reducesTo_S2048x512_S512_d0 h_S_),
    unary main_v35 main_v36 (broadcastInDim S1x512 ![1] bcast_S512_S1x512_1),
    unary main_v36 main_v37 (broadcastInDim S2048x512 ![0, 1] bcast_S1x512_S2048x512_0_1),
    binary main_v33 main_v37 main_v38 Host.divf,
    unary main_v38 main_v39 Host.absf,
    nullary main_cst_11 (constant S_ .f32 0x00000000#32),
    binary main_v39 main_cst_11 main_v40 (fun x v => Host.reduceAdd x v reducesTo_S2048x512_S2048_d1 h_S_),
    unary main_v40 main_v41 (broadcastInDim S2048x1 ![0] bcast_S2048_S2048x1_0),
    nullary main_cst_12 (constant S_ .f32 0x2B8CBCCC#32),
    unary main_cst_12 main_call3_v0 id,
    unary main_call3_v0 main_call3_v1 (broadcastInDim S2048x1 ![] bcast_S_S2048x1),
    binary main_call3_v1 main_v41 main_v42 maximumf,
    unary main_v42 main_v43 (broadcastInDim S2048x512 ![0, 1] bcast_S2048x1_S2048x512_0_1),
    binary main_v38 main_v43 main_v44 Host.divf ]

/-- The buffers of that window. -/
abbrev outW3 : List (Ref sig .tc) :=
  [main_v33, main_v34, main_cst_10, main_v35, main_v36, main_v37, main_v38, main_v39, main_cst_11, main_v40, main_v41, main_cst_12, main_call3_v0, main_call3_v1, main_v42, main_v43, main_v44]

/-- The index of the nearest node of every row. -/
abbrev opsW4 : List (HloOp τ sig (Elt F)) :=
  [ nullary main_call4_v0 (iotaInDim S2048x512 32 1),
    nullary main_call4_cst (constant S_ .f32 0x7F800000#32),
    nullary main_call4_c (constantI S_ 32 0#32),
    quaternary main_v18 main_call4_v0 main_call4_cst main_call4_c main_call4_v1_0 (fun x y u v j => (Host.argReduce reducer_argmin_f32_i32 x y u v reducesTo_S2048x512_S2048_d1 h_S_ j).1),
    quaternary main_v18 main_call4_v0 main_call4_cst main_call4_c main_v45 argminIdx ]

/-- The buffers of that window. -/
abbrev outW4 : List (Ref sig .tc) :=
  [main_call4_v0, main_call4_cst, main_call4_c, main_call4_v1_0, main_v45]

/-- Those indices as a (4, 512) array, and the divergence of the two assignments. -/
abbrev opsW5 : List (HloOp τ sig (Elt F)) :=
  [ reshape main_v45 main_v46 (rfl : (.i32 : EltTy) = .i32) shapeCasts_S2048_S4x512,
    unary main_v44 main_v47 Host.log,
    unary main_v32 main_v48 Host.log,
    binary main_v47 main_v48 main_v49 subf,
    binary main_v44 main_v49 main_v50 mulf,
    nullary main_cst_13 (constant S_ .f32 0x00000000#32),
    binary main_v50 main_cst_13 main_v51 (fun x v => Host.reduceAdd x v reducesTo_S2048x512_S_d0_1 h_S_),
    nullary main_cst_14 (constant S_ .f32 0x45000000#32),
    binary main_v51 main_cst_14 main_v52 Host.divf ]

/-- The buffers of that window. -/
abbrev outW5 : List (Ref sig .tc) :=
  [main_v46, main_v47, main_v48, main_v49, main_v50, main_cst_13, main_v51, main_cst_14, main_v52]

/-- Minus the mean distance of two nodes. -/
abbrev opsW6 : List (HloOp τ sig (Elt F)) :=
  [ unary main_v4 main_v53 (broadcastInDim S1x512x64 ![1, 2] bcast_S512x64_S1x512x64_1_2),
    unary main_v4 main_v54 (broadcastInDim S512x1x64 ![0, 2] bcast_S512x64_S512x1x64_0_2),
    unary main_v53 main_v55 (broadcastInDim S512x512x64 ![0, 1, 2] bcast_S1x512x64_S512x512x64_0_1_2),
    unary main_v54 main_v56 (broadcastInDim S512x512x64 ![0, 1, 2] bcast_S512x1x64_S512x512x64_0_1_2),
    binary main_v55 main_v56 main_v57 subf,
    binary main_v57 main_v57 main_v58 mulf,
    nullary main_cst_15 (constant S_ .f32 0x00000000#32),
    binary main_v58 main_cst_15 main_v59 (fun x v => Host.reduceAdd x v reducesTo_S512x512x64_S512x512_d2 h_S_),
    nullary main_cst_16 (constant S_ .f32 0x00000000#32),
    unary main_cst_16 main_v60 (broadcastInDim S512x512 ![] bcast_S_S512x512),
    binary main_v59 main_v60 main_v61 (cmpf .oeq),
    nullary main_cst_17 (constant S_ .f32 0x3F800000#32),
    unary main_cst_17 main_call5_v0 id,
    unary main_call5_v0 main_call5_v1 (broadcastInDim S512x512 ![] bcast_S_S512x512),
    ternary main_v61 main_call5_v1 main_v59 main_v62 select,
    nullary main_cst_18 (constant S_ .f32 0x00000000#32),
    unary main_cst_18 main_v63 (broadcastInDim S512x512 ![] bcast_S_S512x512),
    binary main_v59 main_v63 main_v64 (cmpf .oeq),
    unary main_v62 main_v65 Host.sqrt,
    nullary main_cst_19 (constant S_ .f32 0x00000000#32),
    unary main_cst_19 main_call6_v0 id,
    unary main_call6_v0 main_call6_v1 (broadcastInDim S512x512 ![] bcast_S_S512x512),
    ternary main_v64 main_call6_v1 main_v65 main_v66 select,
    nullary main_cst_20 (constant S_ .f32 0x00000000#32),
    binary main_v66 main_cst_20 main_v67 (fun x v => Host.reduceAdd x v reducesTo_S512x512_S_d0_1 h_S_),
    nullary main_cst_21 (constant S_ .f32 0x48800000#32),
    binary main_v67 main_cst_21 main_v68 Host.divf,
    unary main_v68 main_v69 Host.negf ]

/-- The buffers of that window. -/
abbrev outW6 : List (Ref sig .tc) :=
  [main_v53, main_v54, main_v55, main_v56, main_v57, main_v58, main_cst_15, main_v59, main_cst_16, main_v60, main_v61, main_cst_17, main_call5_v0, main_call5_v1, main_v62, main_cst_18, main_v63, main_v64, main_v65, main_cst_19, main_call6_v0, main_call6_v1, main_v66, main_cst_20, main_v67, main_cst_21, main_v68, main_v69]

/-- The mean squared step in time. -/
abbrev opsW7 : List (HloOp τ sig (Elt F)) :=
  [ unary main_arg0 main_v70 (extractStridedSlice S4x511x64 ![0, 1, 0] · slices_S4x512x64_S4x511x64_0_1_0),
    unary main_arg0 main_v71 (extractStridedSlice S4x511x64 ![0, 0, 0] · slices_S4x512x64_S4x511x64_0_0_0),
    binary main_v70 main_v71 main_v72 subf,
    binary main_v72 main_v72 main_v73 mulf,
    nullary main_cst_22 (constant S_ .f32 0x00000000#32),
    binary main_v73 main_cst_22 main_v74 (fun x v => Host.reduceAdd x v reducesTo_S4x511x64_S_d0_1_2 h_S_),
    nullary main_cst_23 (constant S_ .f32 0x47FF8000#32),
    binary main_v74 main_cst_23 main_v75 Host.divf,
    nullary main_cst_24 (constant S_ .f32 0x3F666666#32),
    binary main_v75 main_cst_24 main_v76 mulf ]

/-- The buffers of that window. -/
abbrev outW7 : List (Ref sig .tc) :=
  [main_v70, main_v71, main_v72, main_v73, main_cst_22, main_v74, main_cst_23, main_v75, main_cst_24, main_v76]

/-- The grid coordinates of the nearest node at every time step but the last. -/
abbrev opsW8 : List (HloOp τ sig (Elt F)) :=
  [ unary main_v46 main_v77 (extractStridedSlice S4x511 ![0, 0] · slices_S4x512_S4x511_0_0),
    unary main_v46 main_v78 (extractStridedSlice S4x511 ![0, 1] · slices_S4x512_S4x511_0_1),
    nullary main_c (constantI S_ 32 32#32),
    unary main_c main_call7_v0 id,
    unary main_call7_v0 main_call7_v1 (broadcastInDim S4x511 ![] bcast_S_S4x511),
    binary main_v77 main_call7_v1 main_call7_v2 Host.divsi,
    unary main_v77 main_call7_v3 signi,
    unary main_call7_v0 main_call7_v4 signi,
    unary main_call7_v4 main_call7_v5 (broadcastInDim S4x511 ![] bcast_S_S4x511),
    binary main_call7_v3 main_call7_v5 main_call7_v6 (cmpi .ne),
    unary main_call7_v0 main_call7_v7 (broadcastInDim S4x511 ![] bcast_S_S4x511),
    binary main_v77 main_call7_v7 main_call7_v8 Host.remsi,
    nullary main_call7_c (constantI S_ 32 0#32),
    unary main_call7_c main_call7_v9 (broadcastInDim S4x511 ![] bcast_S_S4x511),
    binary main_call7_v8 main_call7_v9 main_call7_v10 (cmpi .ne),
    binary main_call7_v6 main_call7_v10 main_call7_v11 andi,
    nullary main_call7_c_0 (constantI S_ 32 1#32),
    unary main_call7_c_0 main_call7_v12 (broadcastInDim S4x511 ![] bcast_S_S4x511),
    binary main_call7_v2 main_call7_v12 main_call7_v13 subi,
    ternary main_call7_v11 main_call7_v13 main_call7_v2 main_v79 select,
    nullary main_c_25 (constantI S_ 32 32#32),
    unary main_c_25 main_call8_v0 id,
    nullary main_call8_c (constantI S_ 32 0#32),
    binary main_call8_v0 main_call8_c main_call8_v1 (cmpi .eq),
    nullary main_call8_c_0 (constantI S_ 32 1#32),
    ternary main_call8_v1 main_call8_c_0 main_call8_v0 main_call8_v2 select,
    unary main_call8_v2 main_call8_v3 (broadcastInDim S4x511 ![] bcast_S_S4x511),
    binary main_v77 main_call8_v3 main_call8_v4 Host.remsi,
    nullary main_call8_c_1 (constantI S_ 32 0#32),
    unary main_call8_c_1 main_call8_v5 (broadcastInDim S4x511 ![] bcast_S_S4x511),
    binary main_call8_v4 main_call8_v5 main_call8_v6 (cmpi .ne),
    nullary main_call8_c_2 (constantI S_ 32 0#32),
    unary main_call8_c_2 main_call8_v7 (broadcastInDim S4x511 ![] bcast_S_S4x511),
    binary main_call8_v4 main_call8_v7 main_call8_v8 (cmpi .slt),
    nullary main_call8_c_3 (constantI S_ 32 0#32),
    binary main_call8_v2 main_call8_c_3 main_call8_v9 (cmpi .slt),
    unary main_call8_v9 main_call8_v10 (broadcastInDim S4x511 ![] bcast_S_S4x511),
    binary main_call8_v8 main_call8_v10 main_call8_v11 (cmpi .ne),
    binary main_call8_v11 main_call8_v6 main_call8_v12 andi,
    unary main_call8_v2 main_call8_v13 (broadcastInDim S4x511 ![] bcast_S_S4x511),
    binary main_call8_v4 main_call8_v13 main_call8_v14 addi,
    ternary main_call8_v12 main_call8_v14 main_call8_v4 main_v80 select,
    unary main_v79 main_v81 (broadcastInDim S4x511x1 ![0, 1] bcast_S4x511_S4x511x1_0_1),
    unary main_v80 main_v82 (broadcastInDim S4x511x1 ![0, 1] bcast_S4x511_S4x511x1_0_1),
    binary main_v81 main_v82 main_v83 pairUp ]

/-- The buffers of that window. -/
abbrev outW8 : List (Ref sig .tc) :=
  [main_v77, main_v78, main_c, main_call7_v0, main_call7_v1, main_call7_v2, main_call7_v3, main_call7_v4, main_call7_v5, main_call7_v6, main_call7_v7, main_call7_v8, main_call7_c, main_call7_v9, main_call7_v10, main_call7_v11, main_call7_c_0, main_call7_v12, main_call7_v13, main_v79, main_c_25, main_call8_v0, main_call8_c, main_call8_v1, main_call8_c_0, main_call8_v2, main_call8_v3, main_call8_v4, main_call8_c_1, main_call8_v5, main_call8_v6, main_call8_c_2, main_call8_v7, main_call8_v8, main_call8_c_3, main_call8_v9, main_call8_v10, main_call8_v11, main_call8_v12, main_call8_v13, main_call8_v14, main_v80, main_v81, main_v82, main_v83]

/-- The same at every time step but the first, and the difference of the two. -/
abbrev opsW9 : List (HloOp τ sig (Elt F)) :=
  [ nullary main_c_26 (constantI S_ 32 32#32),
    unary main_c_26 main_call9_v0 id,
    unary main_call9_v0 main_call9_v1 (broadcastInDim S4x511 ![] bcast_S_S4x511),
    binary main_v78 main_call9_v1 main_call9_v2 Host.divsi,
    unary main_v78 main_call9_v3 signi,
    unary main_call9_v0 main_call9_v4 signi,
    unary main_call9_v4 main_call9_v5 (broadcastInDim S4x511 ![] bcast_S_S4x511),
    binary main_call9_v3 main_call9_v5 main_call9_v6 (cmpi .ne),
    unary main_call9_v0 main_call9_v7 (broadcastInDim S4x511 ![] bcast_S_S4x511),
    binary main_v78 main_call9_v7 main_call9_v8 Host.remsi,
    nullary main_call9_c (constantI S_ 32 0#32),
    unary main_call9_c main_call9_v9 (broadcastInDim S4x511 ![] bcast_S_S4x511),
    binary main_call9_v8 main_call9_v9 main_call9_v10 (cmpi .ne),
    binary main_call9_v6 main_call9_v10 main_call9_v11 andi,
    nullary main_call9_c_0 (constantI S_ 32 1#32),
    unary main_call9_c_0 main_call9_v12 (broadcastInDim S4x511 ![] bcast_S_S4x511),
    binary main_call9_v2 main_call9_v12 main_call9_v13 subi,
    ternary main_call9_v11 main_call9_v13 main_call9_v2 main_v84 select,
    nullary main_c_27 (constantI S_ 32 32#32),
    unary main_c_27 main_call10_v0 id,
    nullary main_call10_c (constantI S_ 32 0#32),
    binary main_call10_v0 main_call10_c main_call10_v1 (cmpi .eq),
    nullary main_call10_c_0 (constantI S_ 32 1#32),
    ternary main_call10_v1 main_call10_c_0 main_call10_v0 main_call10_v2 select,
    unary main_call10_v2 main_call10_v3 (broadcastInDim S4x511 ![] bcast_S_S4x511),
    binary main_v78 main_call10_v3 main_call10_v4 Host.remsi,
    nullary main_call10_c_1 (constantI S_ 32 0#32),
    unary main_call10_c_1 main_call10_v5 (broadcastInDim S4x511 ![] bcast_S_S4x511),
    binary main_call10_v4 main_call10_v5 main_call10_v6 (cmpi .ne),
    nullary main_call10_c_2 (constantI S_ 32 0#32),
    unary main_call10_c_2 main_call10_v7 (broadcastInDim S4x511 ![] bcast_S_S4x511),
    binary main_call10_v4 main_call10_v7 main_call10_v8 (cmpi .slt),
    nullary main_call10_c_3 (constantI S_ 32 0#32),
    binary main_call10_v2 main_call10_c_3 main_call10_v9 (cmpi .slt),
    unary main_call10_v9 main_call10_v10 (broadcastInDim S4x511 ![] bcast_S_S4x511),
    binary main_call10_v8 main_call10_v10 main_call10_v11 (cmpi .ne),
    binary main_call10_v11 main_call10_v6 main_call10_v12 andi,
    unary main_call10_v2 main_call10_v13 (broadcastInDim S4x511 ![] bcast_S_S4x511),
    binary main_call10_v4 main_call10_v13 main_call10_v14 addi,
    ternary main_call10_v12 main_call10_v14 main_call10_v4 main_v85 select,
    unary main_v84 main_v86 (broadcastInDim S4x511x1 ![0, 1] bcast_S4x511_S4x511x1_0_1),
    unary main_v85 main_v87 (broadcastInDim S4x511x1 ![0, 1] bcast_S4x511_S4x511x1_0_1),
    binary main_v86 main_v87 main_v88 pairUp,
    binary main_v83 main_v88 main_v89 subi ]

/-- The buffers of that window. -/
abbrev outW9 : List (Ref sig .tc) :=
  [main_c_26, main_call9_v0, main_call9_v1, main_call9_v2, main_call9_v3, main_call9_v4, main_call9_v5, main_call9_v6, main_call9_v7, main_call9_v8, main_call9_c, main_call9_v9, main_call9_v10, main_call9_v11, main_call9_c_0, main_call9_v12, main_call9_v13, main_v84, main_c_27, main_call10_v0, main_call10_c, main_call10_v1, main_call10_c_0, main_call10_v2, main_call10_v3, main_call10_v4, main_call10_c_1, main_call10_v5, main_call10_v6, main_call10_c_2, main_call10_v7, main_call10_v8, main_call10_c_3, main_call10_v9, main_call10_v10, main_call10_v11, main_call10_v12, main_call10_v13, main_call10_v14, main_v85, main_v86, main_v87, main_v88, main_v89]

/-- The mean grid distance of neighbours in time. -/
abbrev opsW10 : List (HloOp τ sig (Elt F)) :=
  [ unary main_v89 main_v90 absi,
    nullary main_c_28 (constantI S_ 32 0#32),
    binary main_v90 main_c_28 main_v91 (fun x v => Host.reduce IntOp.addi x v reducesTo_S4x511x2_S4x511_d2 h_S_),
    unary main_v91 main_v92 (sitofp .f32),
    nullary main_cst_29 (constant S_ .f32 0x00000000#32),
    binary main_v92 main_cst_29 main_v93 (fun x v => Host.reduceAdd x v reducesTo_S4x511_S4_d1 h_S_),
    nullary main_cst_30 (constant S_ .f32 0x43FF8000#32),
    unary main_cst_30 main_v94 (broadcastInDim S4 ![] bcast_S_S4),
    binary main_v93 main_v94 main_v95 Host.divf,
    nullary main_cst_31 (constant S_ .f32 0x00000000#32),
    binary main_v95 main_cst_31 main_v96 (fun x v => Host.reduceAdd x v reducesTo_S4_S_d0 h_S_),
    nullary main_cst_32 (constant S_ .f32 0x40800000#32),
    binary main_v96 main_cst_32 main_v97 Host.divf ]

/-- The buffers of that window. -/
abbrev outW10 : List (Ref sig .tc) :=
  [main_v90, main_c_28, main_v91, main_v92, main_cst_29, main_v93, main_cst_30, main_v94, main_v95, main_cst_31, main_v96, main_cst_32, main_v97]

/-- The total. -/
abbrev opsW11 : List (HloOp τ sig (Elt F)) :=
  [ nullary main_cst_33 (constant S_ .f32 0x3F000000#32),
    binary main_cst_33 main_v69 main_v98 mulf,
    binary main_v52 main_v98 main_v99 addf,
    nullary main_cst_34 (constant S_ .f32 0x3E99999A#32),
    binary main_cst_34 main_v76 main_v100 mulf,
    binary main_v99 main_v100 main_v101 addf,
    nullary main_cst_35 (constant S_ .f32 0x3E4CCCCD#32),
    binary main_cst_35 main_v97 main_v102 mulf,
    binary main_v101 main_v102 main_v103 addf ]

/-- The buffers of that window. -/
abbrev outW11 : List (Ref sig .tc) :=
  [main_cst_33, main_v98, main_v99, main_cst_34, main_v100, main_v101, main_cst_35, main_v102, main_v103]

/-- The rows moved towards their nearest nodes. -/
abbrev opsW12 : List (HloOp τ sig (Elt F)) :=
  [ reshape main_v46 main_v104 (rfl : (.i32 : EltTy) = .i32) shapeCasts_S4x512_S2048,
    nullary main_c_36 (constantI S_ 32 0#32),
    unary main_c_36 main_v105 (broadcastInDim S2048 ![] bcast_S_S2048),
    binary main_v104 main_v105 main_v106 (cmpi .slt),
    nullary main_c_37 (constantI S_ 32 512#32),
    unary main_c_37 main_v107 (broadcastInDim S2048 ![] bcast_S_S2048),
    binary main_v104 main_v107 main_v108 addi,
    ternary main_v106 main_v108 main_v104 main_v109 select,
    unary main_v109 main_v110 (broadcastInDim S2048x1 ![0] bcast_S2048_S2048x1_0),
    binary main_v4 main_v110 main_v111 (fun x i => Host.gather gather_S512x64_S2048x1_S2048x64_1_0_n_n_0_1_164 x i),
    reshape main_v111 main_v112 (rfl : (.f32 : EltTy) = .f32) shapeCasts_S2048x64_S4x512x64,
    binary main_v112 main_arg0 main_v113 subf,
    nullary main_cst_38 (constant S_ .f32 0x3DCCCCCD#32),
    unary main_cst_38 main_v114 (broadcastInDim S4x512x64 ![] bcast_S_S4x512x64),
    binary main_v114 main_v113 main_v115 mulf,
    binary main_arg0 main_v115 main_v116 addf ]

/-- The buffers of that window. -/
abbrev outW12 : List (Ref sig .tc) :=
  [main_v104, main_c_36, main_v105, main_v106, main_c_37, main_v107, main_v108, main_v109, main_v110, main_v111, main_v112, main_v113, main_cst_38, main_v114, main_v115, main_v116]

/-- A stretch of operations is plain if each touches TensorCore buffers only, none allocates, and their results, in
    order, are the list's buffers. -/
theorem plain_of {ops : List (HloOp τ sig (Elt F))} {W : List (Ref sig .tc)}
    (hb : ops.Forall fun op => op.bufs ⊆ tcRefs τ sig) (hf : ops.Forall fun op => op.fresh = ∅)
    (hw : ops.map HloOp.writes = W.map fun r => {Proc.devRef (τ := τ) .tc r}) : Plain ops W :=
  ⟨hb, hf, forall_writes_sub_of_map hw⟩

/-- Window 1 is plain: it touches TensorCore buffers only, allocates nothing, and writes the buffers listed. -/
theorem plainW1 : Plain (F := F) opsW1 outW1 :=
  plain_of ⟨unary_bufs_sub .., unary_bufs_sub .., binary_bufs_sub .., reshape_bufs_sub .., reshape_bufs_sub .., unary_bufs_sub .., unary_bufs_sub .., unary_bufs_sub .., unary_bufs_sub .., binary_bufs_sub .., binary_bufs_sub .., nullary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub ..⟩ ⟨rfl, rfl, rfl, rfl, rfl, rfl, rfl, rfl, rfl, rfl, rfl, rfl, rfl, rfl, rfl, rfl, rfl, rfl, rfl, rfl, rfl, rfl, rfl, rfl, rfl, rfl, rfl, rfl⟩ rfl

/-- Window 2 is plain: it touches TensorCore buffers only, allocates nothing, and writes the buffers listed. -/
theorem plainW2 : Plain (F := F) opsW2 outW2 :=
  plain_of ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., binary_bufs_sub .., unary_bufs_sub .., nullary_bufs_sub .., unary_bufs_sub .., unary_bufs_sub .., binary_bufs_sub .., unary_bufs_sub .., binary_bufs_sub ..⟩ ⟨rfl, rfl, rfl, rfl, rfl, rfl, rfl, rfl, rfl, rfl, rfl, rfl, rfl, rfl, rfl, rfl, rfl, rfl, rfl, rfl, rfl, rfl⟩ rfl

/-- Window 3 is plain: it touches TensorCore buffers only, allocates nothing, and writes the buffers listed. -/
theorem plainW3 : Plain (F := F) opsW3 outW3 :=
  plain_of ⟨binary_bufs_sub .., binary_bufs_sub .., nullary_bufs_sub .., binary_bufs_sub .., unary_bufs_sub .., unary_bufs_sub .., binary_bufs_sub .., unary_bufs_sub .., nullary_bufs_sub .., binary_bufs_sub .., unary_bufs_sub .., nullary_bufs_sub .., unary_bufs_sub .., unary_bufs_sub .., binary_bufs_sub .., unary_bufs_sub .., binary_bufs_sub ..⟩ ⟨rfl, rfl, rfl, rfl, rfl, rfl, rfl, rfl, rfl, rfl, rfl, rfl, rfl, rfl, rfl, rfl, rfl⟩ rfl

/-- Window 4 is plain: it touches TensorCore buffers only, allocates nothing, and writes the buffers listed. -/
theorem plainW4 : Plain (F := F) opsW4 outW4 :=
  plain_of ⟨nullary_bufs_sub .., nullary_bufs_sub .., nullary_bufs_sub .., quaternary_bufs_sub .., quaternary_bufs_sub ..⟩ ⟨rfl, rfl, rfl, rfl, rfl⟩ rfl

/-- Window 5 is plain: it touches TensorCore buffers only, allocates nothing, and writes the buffers listed. -/
theorem plainW5 : Plain (F := F) opsW5 outW5 :=
  plain_of ⟨reshape_bufs_sub .., unary_bufs_sub .., unary_bufs_sub .., binary_bufs_sub .., binary_bufs_sub .., nullary_bufs_sub .., binary_bufs_sub .., nullary_bufs_sub .., binary_bufs_sub ..⟩ ⟨rfl, rfl, rfl, rfl, rfl, rfl, rfl, rfl, rfl⟩ rfl

/-- Window 6 is plain: it touches TensorCore buffers only, allocates nothing, and writes the buffers listed. -/
theorem plainW6 : Plain (F := F) opsW6 outW6 :=
  plain_of ⟨unary_bufs_sub .., unary_bufs_sub .., unary_bufs_sub .., unary_bufs_sub .., binary_bufs_sub .., binary_bufs_sub .., nullary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., binary_bufs_sub .., nullary_bufs_sub .., binary_bufs_sub .., unary_bufs_sub ..⟩ ⟨rfl, rfl, rfl, rfl, rfl, rfl, rfl, rfl, rfl, rfl, rfl, rfl, rfl, rfl, rfl, rfl, rfl, rfl, rfl, rfl, rfl, rfl, rfl, rfl, rfl, rfl, rfl, rfl⟩ rfl

/-- Window 7 is plain: it touches TensorCore buffers only, allocates nothing, and writes the buffers listed. -/
theorem plainW7 : Plain (F := F) opsW7 outW7 :=
  plain_of ⟨unary_bufs_sub .., unary_bufs_sub .., binary_bufs_sub .., binary_bufs_sub .., nullary_bufs_sub .., binary_bufs_sub .., nullary_bufs_sub .., binary_bufs_sub .., nullary_bufs_sub .., binary_bufs_sub ..⟩ ⟨rfl, rfl, rfl, rfl, rfl, rfl, rfl, rfl, rfl, rfl⟩ rfl

/-- Window 8 is plain: it touches TensorCore buffers only, allocates nothing, and writes the buffers listed. -/
theorem plainW8 : Plain (F := F) opsW8 outW8 :=
  plain_of ⟨unary_bufs_sub .., unary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., unary_bufs_sub .., binary_bufs_sub ..⟩ ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ rfl

/-- Window 9 is plain: it touches TensorCore buffers only, allocates nothing, and writes the buffers listed. -/
theorem plainW9 : Plain (F := F) opsW9 outW9 :=
  plain_of ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., unary_bufs_sub .., binary_bufs_sub .., binary_bufs_sub ..⟩ ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ rfl

/-- Window 10 is plain: it touches TensorCore buffers only, allocates nothing, and writes the buffers listed. -/
theorem plainW10 : Plain (F := F) opsW10 outW10 :=
  plain_of ⟨unary_bufs_sub .., nullary_bufs_sub .., binary_bufs_sub .., unary_bufs_sub .., nullary_bufs_sub .., binary_bufs_sub .., nullary_bufs_sub .., unary_bufs_sub .., binary_bufs_sub .., nullary_bufs_sub .., binary_bufs_sub .., nullary_bufs_sub .., binary_bufs_sub ..⟩ ⟨rfl, rfl, rfl, rfl, rfl, rfl, rfl, rfl, rfl, rfl, rfl, rfl, rfl⟩ rfl

/-- Window 11 is plain: it touches TensorCore buffers only, allocates nothing, and writes the buffers listed. -/
theorem plainW11 : Plain (F := F) opsW11 outW11 :=
  plain_of ⟨nullary_bufs_sub .., binary_bufs_sub .., binary_bufs_sub .., nullary_bufs_sub .., binary_bufs_sub .., binary_bufs_sub .., nullary_bufs_sub .., binary_bufs_sub .., binary_bufs_sub ..⟩ ⟨rfl, rfl, rfl, rfl, rfl, rfl, rfl, rfl, rfl⟩ rfl

/-- Window 12 is plain: it touches TensorCore buffers only, allocates nothing, and writes the buffers listed. -/
theorem plainW12 : Plain (F := F) opsW12 outW12 :=
  plain_of ⟨reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., binary_bufs_sub .., nullary_bufs_sub .., unary_bufs_sub .., binary_bufs_sub .., binary_bufs_sub ..⟩ ⟨rfl, rfl, rfl, rfl, rfl, rfl, rfl, rfl, rfl, rfl, rfl, rfl, rfl, rfl, rfl, rfl⟩ rfl

/-- @main's operations. -/
abbrev ops : List (HloOp τ sig (Elt F)) :=
  (opsW1 ++ (opsW2 ++ (opsW3 ++ opsW4))) ++ ((opsW5 ++ (opsW6 ++ (opsW7 ++ (opsW8 ++ opsW9)))) ++ (opsW10 ++ (opsW11 ++ opsW12)))

set_option maxHeartbeats 4000000 in
/-- The first part of the program is the first four windows. -/
theorem main_part0_eq (c : Dev nD) : main_part0 (F := F) c = seq (opsW1 ++ (opsW2 ++ (opsW3 ++ opsW4))) := rfl
set_option maxHeartbeats 4000000 in
/-- The second part is the next five. -/
theorem main_part1_eq (c : Dev nD) : main_part1 (F := F) c = seq (opsW5 ++ (opsW6 ++ (opsW7 ++ (opsW8 ++ opsW9)))) := rfl
set_option maxHeartbeats 4000000 in
/-- The third part is the last three. -/
theorem main_part2_eq (c : Dev nD) : main_part2 (F := F) c = seq (opsW10 ++ (opsW11 ++ opsW12)) := rfl

/-- @main is those operations in a straight line. -/
theorem main_eq (c : Dev nD) : main (F := F) c = seq ops := by
  rw [ops, seq_append (opsW1 ++ (opsW2 ++ (opsW3 ++ opsW4))), seq_append (opsW5 ++ (opsW6 ++ (opsW7 ++ (opsW8 ++ opsW9)))),
    ← main_part0_eq c, ← main_part1_eq c, ← main_part2_eq c]
  rfl

end Cert.Proof.RefOps

end
-- ==== Proof.RefTerms.lean ====
/-
  What the reference program computes, as functions of arrays: one definition per value its mathematics has a name for,
  each the composition of the printed operations.
-/
module

public import proofs.«01_k».proof.Proof.RefOps

@[expose] public section

noncomputable section

namespace Cert.Proof.RefTerms

open Cert.ReferenceIdeal Cert.ReferenceIdeal.Gen Cert.Proof.RefOps
open Idealize.ShloMosaic

variable {F : FTy → Type} [FloatOps F]

/-- The rows, each feature scaled by its time step's weight, as a (2048, 64) array. -/
def rows (z : FVec F S4x512x64 .f32) (w : FVec F S1x3500x1 .f32) : FVec F S2048x64 .f32 :=
  shapeCast S2048x64
    (mulf z (broadcastInDim S4x512x64 ![0, 1, 2] bcast_S1x512x1_S4x512x64_0_1_2
      (extractStridedSlice S1x512x1 ![0, 2988, 0] w slices_S1x3500x1_S1x512x1_0_2988_0)))
    shapeCasts_S4x512x64_S2048x64

/-- The nodes as a (512, 64) array. -/
def flatNodes (n : FVec F S16x32x64 .f32) : FVec F S512x64 .f32 :=
  shapeCast S512x64 n shapeCasts_S16x32x64_S512x64

/-- The norm from a sum of squares that keeps away from the square root of zero: over the (2048, 512) array. -/
def norms (s : FVec F S2048x512 .f32) : FVec F S2048x512 .f32 :=
  select (cmpf .oeq s (broadcastInDim S2048x512 ![] bcast_S_S2048x512 (constant S_ .f32 0x00000000#32)))
    (broadcastInDim S2048x512 ![] bcast_S_S2048x512 (constant S_ .f32 0x00000000#32))
    (Host.sqrt (select (cmpf .oeq s (broadcastInDim S2048x512 ![] bcast_S_S2048x512 (constant S_ .f32 0x00000000#32)))
      (broadcastInDim S2048x512 ![] bcast_S_S2048x512 (constant S_ .f32 0x3F800000#32)) s))

/-- The squared distances of every row from every node: the differences squared and summed over the features. -/
def sqDists (r : FVec F S2048x64 .f32) (n : FVec F S512x64 .f32) : FVec F S2048x512 .f32 :=
  Host.reduceAdd
    (mulf
      (subf (broadcastInDim S2048x512x64 ![0, 1, 2] bcast_S2048x1x64_S2048x512x64_0_1_2
          (broadcastInDim S2048x1x64 ![0, 2] bcast_S2048x64_S2048x1x64_0_2 r))
        (broadcastInDim S2048x512x64 ![0, 1, 2] bcast_S1x512x64_S2048x512x64_0_1_2
          (broadcastInDim S1x512x64 ![1, 2] bcast_S512x64_S1x512x64_1_2 n)))
      (subf (broadcastInDim S2048x512x64 ![0, 1, 2] bcast_S2048x1x64_S2048x512x64_0_1_2
          (broadcastInDim S2048x1x64 ![0, 2] bcast_S2048x64_S2048x1x64_0_2 r))
        (broadcastInDim S2048x512x64 ![0, 1, 2] bcast_S1x512x64_S2048x512x64_0_1_2
          (broadcastInDim S1x512x64 ![1, 2] bcast_S512x64_S1x512x64_1_2 n))))
    (constant S_ .f32 0x00000000#32) reducesTo_S2048x512x64_S2048x512_d2 h_S_

/-- An array of the one number of the word `w`, of the (2048, 512) shape. -/
def splat (w : BitVec 32) : FVec F S2048x512 .f32 :=
  broadcastInDim S2048x512 ![] bcast_S_S2048x512 (constant S_ .f32 w)

/-- The rows of `x` divided by the sums of their absolute values, a sum below 1e-12 counting as 1e-12. -/
def normalised (x : FVec F S2048x512 .f32) : FVec F S2048x512 .f32 :=
  Host.divf x (broadcastInDim S2048x512 ![0, 1] bcast_S2048x1_S2048x512_0_1
    (maximumf (broadcastInDim S2048x1 ![] bcast_S_S2048x1 (constant S_ .f32 0x2B8CBCCC#32))
      (broadcastInDim S2048x1 ![0] bcast_S2048_S2048x1_0
        (Host.reduceAdd (Host.absf x) (constant S_ .f32 0x00000000#32) reducesTo_S2048x512_S2048_d1 h_S_))))

/-- Student's kernel of the distances, before normalisation. -/
def student (d : FVec F S2048x512 .f32) : FVec F S2048x512 .f32 :=
  Host.divf (splat 0x3F800000#32)
    (Host.powf (addf (splat 0x3F800000#32) (Host.divf d (splat 0x3F800000#32))) (splat 0x3F800000#32))

/-- The squared assignments divided by their column sums, before normalisation. -/
def sharpened (q : FVec F S2048x512 .f32) : FVec F S2048x512 .f32 :=
  Host.divf (mulf q q) (broadcastInDim S2048x512 ![0, 1] bcast_S1x512_S2048x512_0_1
    (broadcastInDim S1x512 ![1] bcast_S512_S1x512_1
      (Host.reduceAdd (mulf q q) (constant S_ .f32 0x00000000#32) reducesTo_S2048x512_S512_d0 h_S_)))

/-- The index of each row's first least distance. -/
def nearestFlat (d : FVec F S2048x512 .f32) : IVec S2048 32 :=
  argminIdx d (iotaInDim S2048x512 32 1) (constant S_ .f32 0x7F800000#32) (constantI S_ 32 0#32)

/-- The same as a (4, 512) array. -/
def nearest (d : FVec F S2048x512 .f32) : IVec S4x512 32 :=
  shapeCast S4x512 (nearestFlat d) shapeCasts_S2048_S4x512

/-- The divergence of the sharpened assignments `p` from the assignments `q`, per row. -/
def divergence (p q : FVec F S2048x512 .f32) : FVec F S_ .f32 :=
  Host.divf (Host.reduceAdd (mulf p (subf (Host.log p) (Host.log q))) (constant S_ .f32 0x00000000#32) reducesTo_S2048x512_S_d0_1 h_S_)
    (constant S_ .f32 0x45000000#32)

/-- The difference of every two nodes, feature by feature. -/
def nodeDiffs (n : FVec F S512x64 .f32) : FVec F S512x512x64 .f32 :=
  subf (broadcastInDim S512x512x64 ![0, 1, 2] bcast_S1x512x64_S512x512x64_0_1_2
      (broadcastInDim S1x512x64 ![1, 2] bcast_S512x64_S1x512x64_1_2 n))
    (broadcastInDim S512x512x64 ![0, 1, 2] bcast_S512x1x64_S512x512x64_0_1_2
      (broadcastInDim S512x1x64 ![0, 2] bcast_S512x64_S512x1x64_0_2 n))

/-- The squared distances of every two nodes. -/
def nodeSq (n : FVec F S512x64 .f32) : FVec F S512x512 .f32 :=
  Host.reduceAdd (mulf (nodeDiffs n) (nodeDiffs n)) (constant S_ .f32 0x00000000#32) reducesTo_S512x512x64_S512x512_d2 h_S_

/-- The norm from a sum of squares over the (512, 512) array. -/
def nodeNorms (s : FVec F S512x512 .f32) : FVec F S512x512 .f32 :=
  select (cmpf .oeq s (broadcastInDim S512x512 ![] bcast_S_S512x512 (constant S_ .f32 0x00000000#32)))
    (broadcastInDim S512x512 ![] bcast_S_S512x512 (constant S_ .f32 0x00000000#32))
    (Host.sqrt (select (cmpf .oeq s (broadcastInDim S512x512 ![] bcast_S_S512x512 (constant S_ .f32 0x00000000#32)))
      (broadcastInDim S512x512 ![] bcast_S_S512x512 (constant S_ .f32 0x3F800000#32)) s))

/-- Minus the mean distance of two nodes. -/
def diversity (n : FVec F S512x64 .f32) : FVec F S_ .f32 :=
  Host.negf (Host.divf
    (Host.reduceAdd (nodeNorms (nodeSq n)) (constant S_ .f32 0x00000000#32) reducesTo_S512x512_S_d0_1 h_S_)
    (constant S_ .f32 0x48800000#32))

/-- The step of every feature from one time to the next. -/
def steps (z : FVec F S4x512x64 .f32) : FVec F S4x511x64 .f32 :=
  subf (extractStridedSlice S4x511x64 ![0, 1, 0] z slices_S4x512x64_S4x511x64_0_1_0)
    (extractStridedSlice S4x511x64 ![0, 0, 0] z slices_S4x512x64_S4x511x64_0_0_0)

/-- The mean squared step in time, times 0.9. -/
def smoothness (z : FVec F S4x512x64 .f32) : FVec F S_ .f32 :=
  mulf (Host.divf (Host.reduceAdd (mulf (steps z) (steps z)) (constant S_ .f32 0x00000000#32) reducesTo_S4x511x64_S_d0_1_2 h_S_)
    (constant S_ .f32 0x47FF8000#32)) (constant S_ .f32 0x3F666666#32)

/-- One integer over the (4, 511) array. -/
def isplat (w : BitVec 32) : IVec S4x511 32 := broadcastInDim S4x511 ![] bcast_S_S4x511 (constantI S_ 32 w)

/-- Division by 32, rounding down. -/
def floorDiv32 (b : IVec S4x511 32) : IVec S4x511 32 :=
  select
    (andi
      (cmpi .ne (signi b) (broadcastInDim S4x511 ![] bcast_S_S4x511 (signi (constantI S_ 32 32#32))))
      (cmpi .ne (Host.remsi b (isplat 32#32)) (isplat 0#32)))
    (subi (Host.divsi b (isplat 32#32)) (isplat 1#32))
    (Host.divsi b (isplat 32#32))

/-- The divisor of the remainder: 32, or 1 in the place of 0. -/
def modulus : IVec S_ 32 :=
  select (cmpi .eq (constantI S_ 32 32#32) (constantI S_ 32 0#32)) (constantI S_ 32 1#32) (constantI S_ 32 32#32)

/-- The remainder of the division by 32, of the divisor's sign. -/
def floorMod32 (b : IVec S4x511 32) : IVec S4x511 32 :=
  select
    (andi
      (cmpi .ne
        (cmpi .slt (Host.remsi b (broadcastInDim S4x511 ![] bcast_S_S4x511 modulus)) (isplat 0#32))
        (broadcastInDim S4x511 ![] bcast_S_S4x511 (cmpi .slt modulus (constantI S_ 32 0#32))))
      (cmpi .ne (Host.remsi b (broadcastInDim S4x511 ![] bcast_S_S4x511 modulus)) (isplat 0#32)))
    (addi (Host.remsi b (broadcastInDim S4x511 ![] bcast_S_S4x511 modulus)) (broadcastInDim S4x511 ![] bcast_S_S4x511 modulus))
    (Host.remsi b (broadcastInDim S4x511 ![] bcast_S_S4x511 modulus))

/-- The grid coordinates of nodes: row and column, side by side. -/
def coords (b : IVec S4x511 32) : IVec S4x511x2 32 :=
  pairUp (broadcastInDim S4x511x1 ![0, 1] bcast_S4x511_S4x511x1_0_1 (floorDiv32 b))
    (broadcastInDim S4x511x1 ![0, 1] bcast_S4x511_S4x511x1_0_1 (floorMod32 b))

/-- The nodes at every time step but the last, -/
def before (b : IVec S4x512 32) : IVec S4x511 32 := extractStridedSlice S4x511 ![0, 0] b slices_S4x512_S4x511_0_0
/-- and at every time step but the first. -/
def next (b : IVec S4x512 32) : IVec S4x511 32 := extractStridedSlice S4x511 ![0, 1] b slices_S4x512_S4x511_0_1

/-- The difference of the coordinates of neighbours in time. -/
def coordSteps (b : IVec S4x512 32) : IVec S4x511x2 32 := subi (coords (before b)) (coords (next b))

/-- The mean grid distance of neighbours in time, from the differences: first over each sequence, then over the four. -/
def consistency (c : IVec S4x511x2 32) : FVec F S_ .f32 :=
  Host.divf
    (Host.reduceAdd
      (Host.divf
        (Host.reduceAdd
          (sitofp .f32 (Host.reduce IntOp.addi (absi c) (constantI S_ 32 0#32) reducesTo_S4x511x2_S4x511_d2 h_S_))
          (constant S_ .f32 0x00000000#32) reducesTo_S4x511_S4_d1 h_S_)
        (broadcastInDim S4 ![] bcast_S_S4 (constant S_ .f32 0x43FF8000#32)))
      (constant S_ .f32 0x00000000#32) reducesTo_S4_S_d0 h_S_)
    (constant S_ .f32 0x40800000#32)

/-- The total of the four measures, weighted. -/
def total (kl dv ts nb : FVec F S_ .f32) : FVec F S_ .f32 :=
  addf (addf (addf kl (mulf (constant S_ .f32 0x3F000000#32) dv)) (mulf (constant S_ .f32 0x3E99999A#32) ts))
    (mulf (constant S_ .f32 0x3E4CCCCD#32) nb)

/-- The index array the gather reads: a negative index counts from the end. -/
def pick (b : IVec S4x512 32) : IVec S2048x1 32 :=
  broadcastInDim S2048x1 ![0] bcast_S2048_S2048x1_0
    (select
      (cmpi .slt (shapeCast S2048 b shapeCasts_S4x512_S2048) (broadcastInDim S2048 ![] bcast_S_S2048 (constantI S_ 32 0#32)))
      (addi (shapeCast S2048 b shapeCasts_S4x512_S2048) (broadcastInDim S2048 ![] bcast_S_S2048 (constantI S_ 32 512#32)))
      (shapeCast S2048 b shapeCasts_S4x512_S2048))

/-- The rows moved a tenth of the way towards their nearest nodes. -/
def moved (z : FVec F S4x512x64 .f32) (n : FVec F S512x64 .f32) (b : IVec S4x512 32) : FVec F S4x512x64 .f32 :=
  addf z (mulf (broadcastInDim S4x512x64 ![] bcast_S_S4x512x64 (constant S_ .f32 0x3DCCCCCD#32))
    (subf (shapeCast S4x512x64
      (Host.gather gather_S512x64_S2048x1_S2048x64_1_0_n_n_0_1_164 n (pick b)) shapeCasts_S2048x64_S4x512x64) z))

/-- The distances of the rows from the nodes, of the three arguments. -/
def dists (z : FVec F S4x512x64 .f32) (n : FVec F S16x32x64 .f32) (w : FVec F S1x3500x1 .f32) : FVec F S2048x512 .f32 :=
  norms (sqDists (rows z w) (flatNodes n))

end Cert.Proof.RefTerms

end
-- ==== Proof.RefRun.lean ====
/-
  The run of the reference program: every execution terminates, the eight results hold the functions of Proof/RefTerms.lean
  of the arguments, and the arguments are unchanged.

  The twelve windows of Proof/RefOps.lean are read back one at a time, each from any contents before it; a value that a
  later window reads passes through the windows between because they do not write its buffer.
-/
module

public import proofs.«01_k».proof.Proof.RefTerms
public import Idealize.ShloMosaic.Lib.Pipeline.Frame

@[expose] public section

set_option maxRecDepth 16384

noncomputable section

namespace Cert.Proof.RefRun

open Cert.ReferenceIdeal Cert.ReferenceIdeal.Gen Cert.Proof.RefOps Cert.Proof.RefTerms
open Idealize.ShloMosaic Idealize.ShloMosaic.TcCoe Idealize.ShloMosaic.StableHlo Idealize.SL.Sem

variable {F : FTy → Type} [FloatOps F]

/-- The contents of a device's buffers. -/
abbrev Store (F : FTy → Type) := Valuation τ sig (Elt F)

/-- A buffer that a plain stretch of operations does not write keeps its contents through it. -/
theorem keep {os : List (HloOp τ sig (Elt F))} {W : List (Ref sig .tc)} (h : Plain os W) (V : Store F) (r : Ref sig .tc)
    (hr : r ∉ W) : after os V (no_index (Proc.devRef .tc r)) = V (Proc.devRef .tc r) :=
  after_of_writes_sub os V h.2.2 hr

section Windows

variable (V : Store F)

/-- Window 1 leaves the table of nodes -/
theorem w1_nodes : after opsW1 V (no_index (Proc.devRef .tc main_v4)) = flatNodes (V (Proc.devRef .tc main_arg1)) := by
  simp only [opsW1]; after_results_simp; rfl
/-- and the distances. -/
theorem w1_dists : after opsW1 V (no_index (Proc.devRef .tc main_v18))
    = dists (V (Proc.devRef .tc main_arg0)) (V (Proc.devRef .tc main_arg1)) (V (Proc.devRef .tc main_arg2)) := by
  simp only [opsW1]; after_results_simp; rfl
/-- Window 2 leaves the assignments. -/
theorem w2 : after opsW2 V (no_index (Proc.devRef .tc main_v32)) = normalised (student (V (Proc.devRef .tc main_v18))) := by
  simp only [opsW2]; after_results_simp; rfl
/-- Window 3 leaves the sharpened assignments, normalised. -/
theorem w3 : after opsW3 V (no_index (Proc.devRef .tc main_v44)) = normalised (sharpened (V (Proc.devRef .tc main_v32))) := by
  simp only [opsW3]; after_results_simp; rfl
/-- Window 4 leaves the nearest node of each row. -/
theorem w4 : after opsW4 V (no_index (Proc.devRef .tc main_v45)) = nearestFlat (V (Proc.devRef .tc main_v18)) := by
  simp only [opsW4]; after_results_simp; rfl
/-- Window 5 leaves the nearest nodes by batch and time -/
theorem w5_nearest : after opsW5 V (no_index (Proc.devRef .tc main_v46)) = shapeCast S4x512 (V (Proc.devRef .tc main_v45)) shapeCasts_S2048_S4x512 := by
  simp only [opsW5]; after_results_simp; rfl
/-- and the divergence. -/
theorem w5_kl : after opsW5 V (no_index (Proc.devRef .tc main_v52)) = divergence (V (Proc.devRef .tc main_v44)) (V (Proc.devRef .tc main_v32)) := by
  simp only [opsW5]; after_results_simp; rfl
/-- Window 6 leaves the diversity. -/
theorem w6 : after opsW6 V (no_index (Proc.devRef .tc main_v69)) = diversity (V (Proc.devRef .tc main_v4)) := by
  simp only [opsW6]; after_results_simp; rfl
/-- Window 7 leaves the smoothness. -/
theorem w7 : after opsW7 V (no_index (Proc.devRef .tc main_v76)) = smoothness (V (Proc.devRef .tc main_arg0)) := by
  simp only [opsW7]; after_results_simp; rfl
/-- Window 8 leaves the nearest nodes of the later steps -/
theorem w8_next : after opsW8 V (no_index (Proc.devRef .tc main_v78)) = next (V (Proc.devRef .tc main_v46)) := by
  simp only [opsW8]; after_results_simp; rfl
/-- and the grid coordinates of those of the earlier steps. -/
theorem w8_coords : after opsW8 V (no_index (Proc.devRef .tc main_v83)) = coords (before (V (Proc.devRef .tc main_v46))) := by
  simp only [opsW8]; after_results_simp; rfl
/-- Window 9 leaves the differences of the grid coordinates. -/
theorem w9 : after opsW9 V (no_index (Proc.devRef .tc main_v89)) = subi (V (Proc.devRef .tc main_v83)) (coords (V (Proc.devRef .tc main_v78))) := by
  simp only [opsW9]; after_results_simp; rfl
/-- Window 10 leaves the consistency. -/
theorem w10 : after opsW10 V (no_index (Proc.devRef .tc main_v97)) = consistency (V (Proc.devRef .tc main_v89)) := by
  simp only [opsW10]; after_results_simp; rfl
/-- Window 11 leaves the weighted sum. -/
theorem w11 : after opsW11 V (no_index (Proc.devRef .tc main_v103))
    = total (V (Proc.devRef .tc main_v52)) (V (Proc.devRef .tc main_v69)) (V (Proc.devRef .tc main_v76)) (V (Proc.devRef .tc main_v97)) := by
  simp only [opsW11]; after_results_simp; rfl
/-- Window 12 leaves the moved rows. -/
theorem w12 : after opsW12 V (no_index (Proc.devRef .tc main_v116))
    = moved (V (Proc.devRef .tc main_arg0)) (V (Proc.devRef .tc main_v4)) (V (Proc.devRef .tc main_v46)) := by
  simp only [opsW12]; after_results_simp; rfl

end Windows

section Results

variable (V : Store F)

/-- The whole line is its twelve windows, one after another. -/
theorem after_ops : after ops V = after opsW12 (after opsW11 (after opsW10 (after opsW9 (after opsW8 (after opsW7 (after opsW6
    (after opsW5 (after opsW4 (after opsW3 (after opsW2 (after opsW1 V))))))))))) := by
  simp only [ops, after_append]

/-- The distances, -/
abbrev dV : FVec F S2048x512 .f32 := dists (V (Proc.devRef .tc main_arg0)) (V (Proc.devRef .tc main_arg1)) (V (Proc.devRef .tc main_arg2))
/-- the soft assignments, -/
abbrev qV : FVec F S2048x512 .f32 := normalised (student (dV V))
/-- the divergence, -/
abbrev klV : FVec F S_ .f32 := divergence (normalised (sharpened (qV V))) (qV V)
/-- the diversity, -/
abbrev dvV : FVec F S_ .f32 := diversity (flatNodes (V (Proc.devRef .tc main_arg1)))
/-- the smoothness, -/
abbrev tsV : FVec F S_ .f32 := smoothness (V (Proc.devRef .tc main_arg0))
/-- the nearest nodes, -/
abbrev bV : IVec S4x512 32 := nearest (dV V)
/-- and the consistency, of the launch contents. -/
abbrev nbV : FVec F S_ .f32 := consistency (coordSteps (bV V))

/-- Result 1 at the end of the line. -/
theorem at_moved : after ops V (Proc.devRef .tc main_v116)
    = moved (V (Proc.devRef .tc main_arg0)) (flatNodes (V (Proc.devRef .tc main_arg1))) (bV V) := by
  rw [after_ops]; simp (disch := decide) only [w1_nodes, w1_dists, w2, w3, w4, w5_nearest, w5_kl, w6, w7, w8_next, w8_coords, w9, w10, w11, w12, keep plainW1, keep plainW2, keep plainW3, keep plainW4, keep plainW5, keep plainW6, keep plainW7, keep plainW8, keep plainW9, keep plainW10, keep plainW11, keep plainW12]; rfl
/-- Result 2 at the end of the line. -/
theorem at_total : after ops V (Proc.devRef .tc main_v103) = total (klV V) (dvV V) (tsV V) (nbV V) := by
  rw [after_ops]; simp (disch := decide) only [w1_nodes, w1_dists, w2, w3, w4, w5_nearest, w5_kl, w6, w7, w8_next, w8_coords, w9, w10, w11, w12, keep plainW1, keep plainW2, keep plainW3, keep plainW4, keep plainW5, keep plainW6, keep plainW7, keep plainW8, keep plainW9, keep plainW10, keep plainW11, keep plainW12]; rfl
/-- Result 3 at the end of the line. -/
theorem at_kl : after ops V (Proc.devRef .tc main_v52) = klV V := by
  rw [after_ops]; simp (disch := decide) only [w1_nodes, w1_dists, w2, w3, w4, w5_nearest, w5_kl, w6, w7, w8_next, w8_coords, w9, w10, w11, w12, keep plainW1, keep plainW2, keep plainW3, keep plainW4, keep plainW5, keep plainW6, keep plainW7, keep plainW8, keep plainW9, keep plainW10, keep plainW11, keep plainW12]
/-- Result 4 at the end of the line. -/
theorem at_dv : after ops V (Proc.devRef .tc main_v69) = dvV V := by
  rw [after_ops]; simp (disch := decide) only [w1_nodes, w1_dists, w2, w3, w4, w5_nearest, w5_kl, w6, w7, w8_next, w8_coords, w9, w10, w11, w12, keep plainW1, keep plainW2, keep plainW3, keep plainW4, keep plainW5, keep plainW6, keep plainW7, keep plainW8, keep plainW9, keep plainW10, keep plainW11, keep plainW12]
/-- Result 5 at the end of the line. -/
theorem at_ts : after ops V (Proc.devRef .tc main_v76) = tsV V := by
  rw [after_ops]; simp (disch := decide) only [w1_nodes, w1_dists, w2, w3, w4, w5_nearest, w5_kl, w6, w7, w8_next, w8_coords, w9, w10, w11, w12, keep plainW1, keep plainW2, keep plainW3, keep plainW4, keep plainW5, keep plainW6, keep plainW7, keep plainW8, keep plainW9, keep plainW10, keep plainW11, keep plainW12]
/-- Result 6 at the end of the line. -/
theorem at_nb : after ops V (Proc.devRef .tc main_v97) = nbV V := by
  rw [after_ops]; simp (disch := decide) only [w1_nodes, w1_dists, w2, w3, w4, w5_nearest, w5_kl, w6, w7, w8_next, w8_coords, w9, w10, w11, w12, keep plainW1, keep plainW2, keep plainW3, keep plainW4, keep plainW5, keep plainW6, keep plainW7, keep plainW8, keep plainW9, keep plainW10, keep plainW11, keep plainW12]; rfl
/-- Result 7 at the end of the line. -/
theorem at_q : after ops V (Proc.devRef .tc main_v32) = qV V := by
  rw [after_ops]; simp (disch := decide) only [w1_nodes, w1_dists, w2, w3, w4, w5_nearest, w5_kl, w6, w7, w8_next, w8_coords, w9, w10, w11, w12, keep plainW1, keep plainW2, keep plainW3, keep plainW4, keep plainW5, keep plainW6, keep plainW7, keep plainW8, keep plainW9, keep plainW10, keep plainW11, keep plainW12]
/-- Result 8 at the end of the line. -/
theorem at_nearest : after ops V (Proc.devRef .tc main_v46) = bV V := by
  rw [after_ops]; simp (disch := decide) only [w1_nodes, w1_dists, w2, w3, w4, w5_nearest, w5_kl, w6, w7, w8_next, w8_coords, w9, w10, w11, w12, keep plainW1, keep plainW2, keep plainW3, keep plainW4, keep plainW5, keep plainW6, keep plainW7, keep plainW8, keep plainW9, keep plainW10, keep plainW11, keep plainW12]; rfl
/-- The arguments at the end of the line are what they were. -/
theorem at_arg (r : Ref sig .tc) (h : r ∈ [main_arg0, main_arg1, main_arg2]) : after ops V (Proc.devRef .tc r) = V (Proc.devRef .tc r) := by
  simp only [List.mem_cons, List.not_mem_nil, or_false] at h
  rw [after_ops]
  rcases h with rfl | rfl | rfl <;> simp (disch := decide) only [w1_nodes, w1_dists, w2, w3, w4, w5_nearest, w5_kl, w6, w7, w8_next, w8_coords, w9, w10, w11, w12, keep plainW1, keep plainW2, keep plainW3, keep plainW4, keep plainW5, keep plainW6, keep plainW7, keep plainW8, keep plainW9, keep plainW10, keep plainW11, keep plainW12]

end Results

/-- The program has no scoped buffer -/
theorem scopedRefs_eq : (Finset.univ.filter fun b : Ref sig .tc => b.isScoped) = ∅ := by decide
/-- and no scoped semaphore. -/
theorem scopedSems_eq : (Finset.univ.filter fun sm : SemLoc sig => sm.isScoped .tc) = ∅ := by decide

/-- Every window is plain, so the whole line touches TensorCore buffers only and allocates nothing. -/
theorem ops_plain (op : HloOp τ sig (Elt F)) (h : op ∈ ops) : op.bufs ⊆ tcRefs τ sig ∧ op.fresh = ∅ := by
  have at_ {os : List (HloOp τ sig (Elt F))} {W : List (Ref sig .tc)} (hp : Plain os W) (h : op ∈ os) :
      op.bufs ⊆ tcRefs τ sig ∧ op.fresh = ∅ :=
    ⟨List.forall_iff_forall_mem.mp hp.1 op h, List.forall_iff_forall_mem.mp hp.2.1 op h⟩
  rcases List.mem_append.mp h with h | h
  · rcases List.mem_append.mp h with h | h
    · exact at_ plainW1 h
    rcases List.mem_append.mp h with h | h
    · exact at_ plainW2 h
    rcases List.mem_append.mp h with h | h
    · exact at_ plainW3 h
    · exact at_ plainW4 h
  rcases List.mem_append.mp h with h | h
  · rcases List.mem_append.mp h with h | h
    · exact at_ plainW5 h
    rcases List.mem_append.mp h with h | h
    · exact at_ plainW6 h
    rcases List.mem_append.mp h with h | h
    · exact at_ plainW7 h
    rcases List.mem_append.mp h with h | h
    · exact at_ plainW8 h
    · exact at_ plainW9 h
  · rcases List.mem_append.mp h with h | h
    · exact at_ plainW10 h
    rcases List.mem_append.mp h with h | h
    · exact at_ plainW11 h
    · exact at_ plainW12 h

/-- Every execution of the reference program terminates, and every TensorCore buffer ends at the operations' results
    folded over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq
    (fun _ => List.forall_iff_forall_mem.mpr fun op h => (ops_plain op h).1) m ρ fun _ op h => (ops_plain op h).2

end Cert.Proof.RefRun

end
-- ==== Proof.Frames.lean ====
/-
  The frames: the three programs run to the end from any memory, leave their arguments unchanged and every semaphore
  counter at zero. The kernel's two are the generated runs; the reference's is read off Proof/RefRun.lean.
-/
module

public import proofs.«01_k».proof.Defs
public import proofs.«01_k».proof.Proof.Gen.Kernel.Frame
public import proofs.«01_k».proof.Proof.Gen.KernelIdeal.Frame
public import proofs.«01_k».proof.Proof.RefRun

@[expose] public section

noncomputable section

namespace Cert.Proof.Frames

open Idealize.ShloMosaic Idealize.SL.Sem

/-- The kernel, in machine arithmetic. -/
theorem frame_P : Cert.quiescent_Kernel := fun m ρ _ => Cert.Kernel.Gen.frame m ρ

/-- The kernel, in exact arithmetic. -/
theorem frame_PI : Cert.quiescent_KernelIdeal := fun m ρ _ => Cert.KernelIdeal.Gen.frame m ρ

/-- The reference, in exact arithmetic: it has no semaphore at all. -/
theorem frame_RI : Cert.quiescent_ReferenceIdeal := fun m ρ _ =>
  (θ_run Cert.ReferenceIdeal.defs _ _).mono (fun r h =>
      ⟨fun c => ⟨(h c _).trans (RefRun.at_arg _ _ (by simp)), (h c _).trans (RefRun.at_arg _ _ (by simp)),
        (h c _).trans (RefRun.at_arg _ _ (by simp))⟩,
      sem_eq_zero_of_no_sems (by decide) r.2⟩)
    (RefRun.run_all (F := Ideal) m ρ)

end Cert.Proof.Frames

end
-- ==== Proof.KernelRun.lean ====
/-
  The run of the kernel's program: every execution terminates, and each of the eight results holds the body's value for it,
  as a function of the three arguments.  The grid has one point and every window is its whole array, so an array after
  the run is what the body left; the five scalars then pass through a change of shape on the host.
-/
module

public import proofs.«01_k».proof.Proof.Gen.KernelIdeal.Frame
public import Idealize.ShloMosaic.Lib.Pipeline.Value
public import Idealize.ShloMosaic.Lib.Pipeline.ValueKit

@[expose] public section

set_option maxRecDepth 16384

noncomputable section

namespace Cert.Proof.KernelRun

open Cert.KernelIdeal Cert.KernelIdeal.Gen
open Idealize.ShloMosaic Idealize.ShloMosaic.TcCoe Idealize.ShloMosaic.Tactic Idealize.ShloMosaic.StableHlo Idealize.SL.Sem
open Idealize.ShloMosaic.Pipeline (Dat Cfg Window)

variable {F : FTy → Type} [FloatOps F]

/-! ## The body's values as functions of what it loads -/

section Terms

variable (z : Vec F S4x512x64 .f32) (n : Vec F S512x64 .f32) (w : Vec F S512x1 .f32)

/-- The distance of every row to every node. -/
abbrev kDist : FVec F S2048x512 .f32 := k0_pay11 z n w
/-- The row-normalised assignment. -/
abbrev kQ : FVec F S2048x512 .f32 := k0_pay15 z n w
/-- The index of each row's nearest node. -/
abbrev kNear : IVec S2048x1 32 := k0_pay17 (kDist z n w)
/-- The rows moved towards their nearest nodes. -/
abbrev kSom : FVec F S4x512x64 .f32 :=
  k0_pay23 (k0_pay6 z) (k0_pay7 n) (iota .tc S2048x512 32 [1] iota_S2048x512_d1_w32) (kNear z n w)
/-- The divergence. -/
abbrev kKl : F .f32 := k0_pay16 (k0_pay12 z n w) (k0_pay14 z n w) (k0_pay15 z n w)
/-- The mean distance of two nodes. -/
abbrev kGram : F .f32 := k0_pay24 (k0_pay7 n) (k0_pay8 n) (k0_pay9 (F := F)) (k0_pay10 n)
/-- The diversity: the mean distance, negated. -/
abbrev kDiv : F .f32 := k0_pay25 (kGram n) (Scalar.ofBits .f32 0x00000000#32)
/-- The smoothness in time. -/
abbrev kTs : F .f32 := k0_pay27 (k0_pay6 z)
/-- The neighbour consistency. -/
abbrev kNb : F .f32 := k0_pay28 (F := F) (kNear z n w)
/-- The weighted sum of the four losses, as the body stores it. -/
abbrev kTotal : FVec F S1x1 .f32 :=
  k0_pay5 (kNb z n w) (k0_pay29 (k0_pay6 z) (kKl z n w) (kGram n) (Scalar.ofBits .f32 0x00000000#32))
    (Scalar.ofBits .f32 0x3E4CCCCD#32)
/-- The nearest nodes, sequence by sequence: each quarter of the column laid out as one row. -/
abbrev kBmu : Vec F S4x512 .i32 :=
  View.canon (Val := Elt F) (e := .i32) [⟨r0_7, k0_pay22 (kNear z n w)⟩, ⟨r0_6, k0_pay21 (kNear z n w)⟩,
    ⟨r0_5, k0_pay20 (k0_pay19 (kDist z n w))⟩, ⟨r0_4, k0_pay18 (kDist z n w)⟩]

end Terms

/-- The nodes as a table of 512 rows. -/
abbrev nodes₂ (n : Vec F S16x32x64 .f32) : Vec F S512x64 .f32 := shapeCast S512x64 n shapeCasts_S16x32x64_S512x64
/-- The weights of the last 512 steps as a column. -/
abbrev weights₂ (w : Vec F S1x3500x1 .f32) : Vec F S512x1 .f32 :=
  shapeCast S512x1 (extractStridedSlice S1x512x1 ![0, 2988, 0] w slices_S1x3500x1_S1x512x1_0_2988_0) shapeCasts_S1x512x1_S512x1

/-! ## The stores -/

/-- A store through a whole-array rectangle at zero leaves what was stored. -/
theorem zero₂ : (![0, 0] : Fin 2 → Nat) = fun _ => 0 := by funext a; fin_cases a <;> rfl
/-- The same offsets, for an array of three axes. -/
theorem zero₃ : (![0, 0, 0] : Fin 3 → Nat) = fun _ => 0 := by funext a; fin_cases a <;> rfl

section Stores

variable (z : Vec F S4x512x64 .f32) (n : Vec F S512x64 .f32) (w : Vec F S512x1 .f32)

/-- The load of the sequences reads the whole block; -/
theorem ld_z : View.ld z r0_0 = z := View.ld_unit_zero (S := S4x512x64) zero₃ _ z
/-- so does the load of the nodes, -/
theorem ld_n : View.ld n r0_1 = n := View.ld_unit_zero (S := S512x64) zero₂ _ n
/-- and the load of the weights. -/
theorem ld_w : View.ld w r0_2 = w := View.ld_unit_zero (S := S512x1) zero₂ _ w

/-- The body's output for result 1: the moved rows. -/
theorem out_som : out0_3 z n w = kSom z n w := by
  unfold_out out0_3
  rw [View.canon_unit_zero (S := S4x512x64) zero₃, ld_z, ld_n, ld_w]
/-- The body's output for result 7: the assignments. -/
theorem out_q : out0_4 z n w = kQ z n w := by
  unfold_out out0_4
  rw [View.canon_unit_zero (S := S2048x512) zero₂, ld_z, ld_n, ld_w]
/-- The body's output for result 8: the nearest nodes. -/
theorem out_bmu : out0_5 z n w = kBmu z n w := by
  unfold_out out0_5
  rw [ld_z, ld_n, ld_w]
/-- The body's output for result 3: the divergence. -/
theorem out_kl : out0_6 z n w = k0_pay1 (kKl z n w) := by
  unfold_out out0_6
  rw [View.canon_unit_zero (S := S1x1) zero₂, ld_z, ld_n, ld_w]
/-- The body's output for result 4: the diversity. -/
theorem out_div : out0_7 z n w = k0_pay2 (kDiv n) := by
  unfold_out out0_7
  rw [View.canon_unit_zero (S := S1x1) zero₂, ld_n]
/-- The body's output for result 5: the smoothness. -/
theorem out_ts : out0_8 z n w = k0_pay3 (kTs z) := by
  unfold_out out0_8
  rw [View.canon_unit_zero (S := S1x1) zero₂, ld_z]
/-- The body's output for result 6: the consistency. -/
theorem out_nb : out0_9 z n w = k0_pay4 (kNb z n w) := by
  unfold_out out0_9
  rw [View.canon_unit_zero (S := S1x1) zero₂, ld_z, ld_n, ld_w]
/-- The body's output for result 2: the weighted sum. -/
theorem out_total : out0_10 z n w = kTotal z n w := by
  unfold_out out0_10
  rw [View.canon_unit_zero (S := S1x1) zero₂, ld_z, ld_n, ld_w]

end Stores

/-! ## The arrays after the region -/

variable (m : (ℓ : Loc nD τ sig) → Buf (Elt F) ℓ) (ρ : Dev nD → PrngReg) (c : Dev nD)

/-- The three arguments, as the body finds them. -/
abbrev zz : Vec F S4x512x64 .f32 := m (c.tc.loc main_arg0)
/-- The nodes a device's kernel is called on. -/
abbrev nn : Vec F S512x64 .f32 := nodes₂ (m (c.tc.loc main_arg1))
/-- The weights a device's kernel is called on. -/
abbrev ww : Vec F S512x1 .f32 := weights₂ (m (c.tc.loc main_arg2))

/-- At the call, the second operand is the table of nodes. -/
theorem entry_n : V m c main_call0_v0 = nn m c := by entry_read; rfl
/-- At the call, the third operand is the column of weights. -/
theorem entry_w : V m c main_call0_v2 = ww m c := by entry_read; rfl

/-- At the one point every input's block is block zero. -/
theorem at0 : ∀ a, win0_0.index t0_0 a = 0 := by decide +kernel
/-- The same of the nodes, -/
theorem at1 : ∀ a, win0_1.index t0_0 a = 0 := by decide +kernel
/-- and of the weights. -/
theorem at2 : ∀ a, win0_2.index t0_0 a = 0 := by decide +kernel

/-- The one point's block of each input is the whole of it. -/
theorem blk_z : iblk m c 0 t0_0 = zz m c := by
  funext j
  unfold iblk
  blk_simp
  rw [V_main_arg0]
  refine congrArg _ (funext fun a => Fin.ext ?_)
  fin_cases a <;> blk_simp <;> first | rfl | (rw [at0, Nat.zero_mul, Nat.zero_add])
/-- The nodes' block is the whole table. -/
theorem blk_n : iblk m c 1 t0_0 = nn m c := by
  funext j
  unfold iblk
  blk_simp
  rw [show V m c (Pipeline.arrRef spec0 1) = nn m c from entry_n m c]
  refine congrArg _ (funext fun a => Fin.ext ?_)
  fin_cases a <;> blk_simp <;> first | rfl | (rw [at1, Nat.zero_mul, Nat.zero_add])
/-- The weights' block is the whole column. -/
theorem blk_w : iblk m c 2 t0_0 = ww m c := by
  funext j
  unfold iblk
  blk_simp
  rw [show V m c (Pipeline.arrRef spec0 2) = ww m c from entry_w m c]
  refine congrArg _ (funext fun a => Fin.ext ?_)
  fin_cases a <;> blk_simp <;> first | rfl | (rw [at2, Nat.zero_mul, Nat.zero_add])

/-- The array of the moved rows after the call. -/
theorem arr_som : (dats m 0 c).arrAt 3 cfg0.N = kSom (zz m c) (nn m c) (ww m c) := by
  refine (dats m 0 c).arrAt_eq_of_after_last 3 t0_0 (by decide +kernel) _ fun j => ?_
  blk_simp
  rw [after0_3, blk_z, blk_n, blk_w, out_som]
/-- The array of the assignments after the call. -/
theorem arr_q : (dats m 0 c).arrAt 4 cfg0.N = kQ (zz m c) (nn m c) (ww m c) := by
  refine (dats m 0 c).arrAt_eq_of_after_last 4 t0_0 (by decide +kernel) _ fun j => ?_
  blk_simp
  rw [after0_4, blk_z, blk_n, blk_w, out_q]
/-- The array of the nearest nodes after the call. -/
theorem arr_bmu : (dats m 0 c).arrAt 5 cfg0.N = kBmu (zz m c) (nn m c) (ww m c) := by
  refine (dats m 0 c).arrAt_eq_of_after_last 5 t0_0 (by decide +kernel) _ fun j => ?_
  blk_simp
  rw [after0_5, blk_z, blk_n, blk_w, out_bmu]
/-- The array of the divergence after the call. -/
theorem arr_kl : (dats m 0 c).arrAt 6 cfg0.N = k0_pay1 (kKl (zz m c) (nn m c) (ww m c)) := by
  refine (dats m 0 c).arrAt_eq_of_after_last 6 t0_0 (by decide +kernel) _ fun j => ?_
  blk_simp
  rw [after0_6, blk_z, blk_n, blk_w, out_kl]
/-- The array of the diversity after the call. -/
theorem arr_div : (dats m 0 c).arrAt 7 cfg0.N = k0_pay2 (kDiv (nn m c)) := by
  refine (dats m 0 c).arrAt_eq_of_after_last 7 t0_0 (by decide +kernel) _ fun j => ?_
  blk_simp
  rw [after0_7, blk_z, blk_n, blk_w, out_div]
/-- The array of the smoothness after the call. -/
theorem arr_ts : (dats m 0 c).arrAt 8 cfg0.N = k0_pay3 (kTs (zz m c)) := by
  refine (dats m 0 c).arrAt_eq_of_after_last 8 t0_0 (by decide +kernel) _ fun j => ?_
  blk_simp
  rw [after0_8, blk_z, blk_n, blk_w, out_ts]
/-- The array of the consistency after the call. -/
theorem arr_nb : (dats m 0 c).arrAt 9 cfg0.N = k0_pay4 (kNb (zz m c) (nn m c) (ww m c)) := by
  refine (dats m 0 c).arrAt_eq_of_after_last 9 t0_0 (by decide +kernel) _ fun j => ?_
  blk_simp
  rw [after0_9, blk_z, blk_n, blk_w, out_nb]
/-- The array of the weighted sum after the call. -/
theorem arr_total : (dats m 0 c).arrAt 10 cfg0.N = kTotal (zz m c) (nn m c) (ww m c) := by
  refine (dats m 0 c).arrAt_eq_of_after_last 10 t0_0 (by decide +kernel) _ fun j => ?_
  blk_simp
  rw [after0_10, blk_z, blk_n, blk_w, out_total]

/-! ## The host's lines after the region -/

/-- The buffers as the region leaves them. -/
abbrev Vx : Valuation τ sig (Elt F) := Pipeline.withArrays spec0 c (V0 m c) fun w => (dats m 0 c).arrAt w cfg0.N

/-- Before the closing reshapes, each of the call's arrays is what the call left. -/
theorem Vx_arr (w : Fin cfg0.W) : Vx m c (Proc.devRef .tc (Pipeline.arrRef spec0 w)) = (dats m 0 c).arrAt w cfg0.N :=
  Pipeline.withArrays_arr spec0 launch0.win.arr_inj c (V0 m c) _ w

/-- The reshape to a scalar that makes result 2. -/
theorem tail_total : Pipeline.afterTail₀ cfgs (dats m) 0 (V0 m) [hostOps1] c main_v0_1
    = shapeCast S_ (kTotal (zz m c) (nn m c) (ww m c)) shapeCasts_S1x1_S_ := by
  have h := Vx_arr m c 10
  show after (List.flatten [hostOps1]) (Vx m c) (Proc.devRef .tc main_v0_1) = _
  simp only [hostOps1, List.flatten_cons, List.flatten_nil, List.append_nil]
  after_results_simp
  rw [show Vx m c (Proc.devRef .tc main_call0_v3_7) = _ from h, arr_total]
  rfl
/-- The reshape to a scalar that makes result 3. -/
theorem tail_kl : Pipeline.afterTail₀ cfgs (dats m) 0 (V0 m) [hostOps1] c main_v0_2
    = shapeCast S_ (k0_pay1 (kKl (zz m c) (nn m c) (ww m c))) shapeCasts_S1x1_S_ := by
  have h := Vx_arr m c 6
  show after (List.flatten [hostOps1]) (Vx m c) (Proc.devRef .tc main_v0_2) = _
  simp only [hostOps1, List.flatten_cons, List.flatten_nil, List.append_nil]
  after_results_simp
  rw [show Vx m c (Proc.devRef .tc main_call0_v3_3) = _ from h, arr_kl]
  rfl
/-- The reshape to a scalar that makes result 4. -/
theorem tail_div : Pipeline.afterTail₀ cfgs (dats m) 0 (V0 m) [hostOps1] c main_v0_3
    = shapeCast S_ (k0_pay2 (kDiv (nn m c))) shapeCasts_S1x1_S_ := by
  have h := Vx_arr m c 7
  show after (List.flatten [hostOps1]) (Vx m c) (Proc.devRef .tc main_v0_3) = _
  simp only [hostOps1, List.flatten_cons, List.flatten_nil, List.append_nil]
  after_results_simp
  rw [show Vx m c (Proc.devRef .tc main_call0_v3_4) = _ from h, arr_div]
  rfl
/-- The reshape to a scalar that makes result 5. -/
theorem tail_ts : Pipeline.afterTail₀ cfgs (dats m) 0 (V0 m) [hostOps1] c main_v0_4
    = shapeCast S_ (k0_pay3 (kTs (zz m c))) shapeCasts_S1x1_S_ := by
  have h := Vx_arr m c 8
  show after (List.flatten [hostOps1]) (Vx m c) (Proc.devRef .tc main_v0_4) = _
  simp only [hostOps1, List.flatten_cons, List.flatten_nil, List.append_nil]
  after_results_simp
  rw [show Vx m c (Proc.devRef .tc main_call0_v3_5) = _ from h, arr_ts]
  rfl
/-- The reshape to a scalar that makes result 6. -/
theorem tail_nb : Pipeline.afterTail₀ cfgs (dats m) 0 (V0 m) [hostOps1] c main_v0_5
    = shapeCast S_ (k0_pay4 (kNb (zz m c) (nn m c) (ww m c))) shapeCasts_S1x1_S_ := by
  have h := Vx_arr m c 9
  show after (List.flatten [hostOps1]) (Vx m c) (Proc.devRef .tc main_v0_5) = _
  simp only [hostOps1, List.flatten_cons, List.flatten_nil, List.append_nil]
  after_results_simp
  rw [show Vx m c (Proc.devRef .tc main_call0_v3_6) = _ from h, arr_nb]
  rfl

/-- The kernel's run with every result named: the arguments unchanged and no counter left standing. -/
theorem run : θ_run defs (onTc (τ := τ) (main (F := F))) ⟨m, fun _ => 0, ρ⟩ (fun r => (∀ c : Dev nD,
      r.2.mem (c.tc.loc main_v0_0) = kSom (zz m c) (nn m c) (ww m c)
      ∧ r.2.mem (c.tc.loc main_v0_1) = shapeCast S_ (kTotal (zz m c) (nn m c) (ww m c)) shapeCasts_S1x1_S_
      ∧ r.2.mem (c.tc.loc main_v0_2) = shapeCast S_ (k0_pay1 (kKl (zz m c) (nn m c) (ww m c))) shapeCasts_S1x1_S_
      ∧ r.2.mem (c.tc.loc main_v0_3) = shapeCast S_ (k0_pay2 (kDiv (nn m c))) shapeCasts_S1x1_S_
      ∧ r.2.mem (c.tc.loc main_v0_4) = shapeCast S_ (k0_pay3 (kTs (zz m c))) shapeCasts_S1x1_S_
      ∧ r.2.mem (c.tc.loc main_v0_5) = shapeCast S_ (k0_pay4 (kNb (zz m c) (nn m c) (ww m c))) shapeCasts_S1x1_S_
      ∧ r.2.mem (c.tc.loc main_v0_6) = kQ (zz m c) (nn m c) (ww m c)
      ∧ r.2.mem (c.tc.loc main_v0_7) = kBmu (zz m c) (nn m c) (ww m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2))
      ∧ r.2.sem = fun _ => 0) := by
  refine θ_run_mono (θ_run_and (run_main_quiescent m ρ) (unchanged m ρ)) fun r h => ⟨fun c => ?_, h.1.2⟩
  obtain ⟨⟨hf, -⟩, hu⟩ := h
  have rest := fun b hb => (hf c).2 b hb
  refine ⟨((hf c).1 3).trans (arr_som m c), ?_, ?_, ?_, ?_, ?_, ((hf c).1 4).trans (arr_q m c),
    ((hf c).1 5).trans (arr_bmu m c), hu c⟩
  · exact (rest main_v0_1 (Pipeline.mem_restRefs_of main_v0_1 (by decide) (by decide))).trans (tail_total m c)
  · exact (rest main_v0_2 (Pipeline.mem_restRefs_of main_v0_2 (by decide) (by decide))).trans (tail_kl m c)
  · exact (rest main_v0_3 (Pipeline.mem_restRefs_of main_v0_3 (by decide) (by decide))).trans (tail_div m c)
  · exact (rest main_v0_4 (Pipeline.mem_restRefs_of main_v0_4 (by decide) (by decide))).trans (tail_ts m c)
  · exact (rest main_v0_5 (Pipeline.mem_restRefs_of main_v0_5 (by decide) (by decide))).trans (tail_nb m c)

end Cert.Proof.KernelRun

end
-- ==== Proof.Reals.lean ====
/-
  Arithmetic of the ideal float operations on real arguments: each operation on two reals, where it is defined, is the
  operation of the reals, and the constants the two programs print are the reals their words denote.
-/
module

public import Idealize.ShloMosaic.PureOps.Ideal.Laws
public import Idealize.ShloMosaic.Lib.IdealHost
public import Mathlib.Analysis.SpecialFunctions.Pow.Real

@[expose] public section

noncomputable section

namespace Cert.Proof.Reals

open Idealize.ShloMosaic

/-- The root of a real that is not negative. -/
theorem sqrt_coe {r : ℝ} (h : 0 ≤ r) : Ideal.sqrt (r : EReal) = ((Real.sqrt r : ℝ) : EReal) := by
  show (if r < 0 then (⊥ : EReal) else (Real.sqrt r : EReal)) = _
  rw [if_neg (not_lt.mpr h)]

/-- The logarithm of a positive real. -/
theorem log_coe {r : ℝ} (h : 0 < r) : Ideal.log (r : EReal) = ((Real.log r : ℝ) : EReal) := by
  show (if r ≤ 0 then (⊥ : EReal) else (Real.log r : EReal)) = _
  rw [if_neg (not_le.mpr h)]

/-- The logarithm of zero. -/
theorem log_zero : Ideal.log ((0 : ℝ) : EReal) = ⊥ := by
  show (if (0 : ℝ) ≤ 0 then (⊥ : EReal) else (Real.log 0 : EReal)) = _
  rw [if_pos le_rfl]

/-- The quotient of two reals, the divisor not zero. -/
theorem div_coe (a : ℝ) {b : ℝ} (h : b ≠ 0) : Ideal.div (a : EReal) (b : EReal) = ((a / b : ℝ) : EReal) := by
  rw [Ideal.div_coe h, ← EReal.coe_mul, mul_one_div]

/-- The first power of a real. -/
theorem pow_one_coe (r : ℝ) : Ideal.pow (r : EReal) 1 = (r : EReal) := by
  show ((Real.rpow r 1 : ℝ) : EReal) = _
  exact congrArg _ (Real.rpow_one r)

/-- The greater of two reals. -/
theorem max_coe (a b : ℝ) : max (a : EReal) (b : EReal) = ((max a b : ℝ) : EReal) :=
  (EReal.coe_strictMono.monotone.map_max).symm

/-- The absolute value of a real. -/
theorem abs_coe (a : ℝ) : max (a : EReal) (-(a : EReal)) = ((|a| : ℝ) : EReal) := by
  rw [← EReal.coe_neg, max_coe]; rfl

/-- A finite sum of reals. -/
theorem sum_coe {ι : Type} (s : Finset ι) (f : ι → ℝ) : (∑ x ∈ s, ((f x : ℝ) : EReal)) = ((∑ x ∈ s, f x : ℝ) : EReal) := by
  classical
  induction s using Finset.induction_on with
  | empty => simp
  | insert a s ha ih => rw [Finset.sum_insert ha, Finset.sum_insert ha, ih, EReal.coe_add]

/-! ## The constants -/

/-- The word of zero. -/
theorem c_zero : Ideal.ofBits .f32 0x00000000#32 = ((0 : ℝ) : EReal) := by simp [Ideal.ofBits, Ideal.ieee, -EReal.coe_mul]
/-- The word of one. -/
theorem c_one : Ideal.ofBits .f32 0x3F800000#32 = ((1 : ℝ) : EReal) := by
  simp [Ideal.ofBits, Ideal.ieee, -EReal.coe_mul]; norm_num
/-- The word of minus two. -/
theorem c_neg_two : Ideal.ofBits .f32 0xC0000000#32 = ((-2 : ℝ) : EReal) := by
  simp [Ideal.ofBits, Ideal.ieee, -EReal.coe_mul]; norm_num
/-- The word of the number of rows. -/
theorem c_2048 : Ideal.ofBits .f32 0x45000000#32 = ((2048 : ℝ) : EReal) := by
  simp [Ideal.ofBits, Ideal.ieee, -EReal.coe_mul]; norm_num
/-- The word of the number of pairs of nodes. -/
theorem c_262144 : Ideal.ofBits .f32 0x48800000#32 = ((262144 : ℝ) : EReal) := by
  simp [Ideal.ofBits, Ideal.ieee, -EReal.coe_mul]; norm_num
/-- The word of the number of differences in time. -/
theorem c_130816 : Ideal.ofBits .f32 0x47FF8000#32 = ((130816 : ℝ) : EReal) := by
  simp [Ideal.ofBits, Ideal.ieee, -EReal.coe_mul]; norm_num
/-- The word of the number of steps in all four sequences. -/
theorem c_2044 : Ideal.ofBits .f32 0x44FF8000#32 = ((2044 : ℝ) : EReal) := by
  simp [Ideal.ofBits, Ideal.ieee, -EReal.coe_mul]; norm_num
/-- The word of the number of steps in one sequence. -/
theorem c_511 : Ideal.ofBits .f32 0x43FF8000#32 = ((511 : ℝ) : EReal) := by
  simp [Ideal.ofBits, Ideal.ieee, -EReal.coe_mul]; norm_num
/-- The word of four. -/
theorem c_four : Ideal.ofBits .f32 0x40800000#32 = ((4 : ℝ) : EReal) := by
  simp [Ideal.ofBits, Ideal.ieee, -EReal.coe_mul]; norm_num
/-- The word of a million. -/
theorem c_million : Ideal.ofBits .f32 0x49742400#32 = ((1000000 : ℝ) : EReal) := by
  simp [Ideal.ofBits, Ideal.ieee, -EReal.coe_mul]; norm_num
/-- The word of infinity. -/
theorem c_inf : Ideal.ofBits .f32 0x7F800000#32 = (⊤ : EReal) := by
  simp [Ideal.ofBits, Ideal.ieee]

/-- The floor under the sums: the word nearest 1e-12. -/
def eps : ℝ := 9223372 / 2 ^ 63
/-- It is that word's value. -/
theorem c_eps : Ideal.ofBits .f32 0x2B8CBCCC#32 = ((eps : ℝ) : EReal) := by
  simp [Ideal.ofBits, Ideal.ieee, -EReal.coe_mul, eps]; norm_num
/-- It is positive. -/
theorem eps_pos : 0 < eps := by unfold eps; positivity

end Cert.Proof.Reals

end
-- ==== Proof.Dist.lean ====
/-
  The distance of every weighted row from every node: the kernel's product of augmented matrices and the reference's sum
  of squared differences are the same real number, at real inputs.
-/
module

public import proofs.«01_k».proof.Proof.KernelRun
public import proofs.«01_k».proof.Proof.RefTerms
public import proofs.«01_k».proof.Proof.Reals
public import Idealize.ShloMosaic.Lib.Pointwise

@[expose] public section

set_option maxRecDepth 16384

noncomputable section

namespace Cert.Proof.Dist

open Cert.KernelIdeal Cert.KernelIdeal.Gen Cert.Proof.Reals
open Idealize.ShloMosaic Idealize.ShloMosaic.TcCoe

/-- The row `i` of the (2048, 64) array, its features scaled by the weight of its time step. -/
def row (Z : Fin 4 → Fin 512 → Fin 64 → ℝ) (T : Fin 512 → ℝ) (i : Fin 2048) (k : Fin 64) : ℝ :=
  Z ⟨i / 512, by omega⟩ ⟨i % 512, by omega⟩ k * T ⟨i % 512, by omega⟩

/-- The squared distance of two vectors of 64 features. -/
def sq (a b : Fin 64 → ℝ) : ℝ := ∑ k, (a k - b k) * (a k - b k)

/-- A sum of squared differences is not negative. -/
theorem sq_nonneg (a b : Fin 64 → ℝ) : 0 ≤ sq a b := Finset.sum_nonneg fun _ _ => mul_self_nonneg _

/-- The distance of row `i` from node `j`. -/
def dist (Z : Fin 4 → Fin 512 → Fin 64 → ℝ) (N : Fin 512 → Fin 64 → ℝ) (T : Fin 512 → ℝ) (i : Fin 2048) (j : Fin 512) : ℝ :=
  Real.sqrt (sq (row Z T i) (N j))

/-- A distance is not negative. -/
theorem dist_nonneg (Z N T i j) : 0 ≤ dist Z N T i j := Real.sqrt_nonneg _

/-- The square of a difference, summed: minus twice the product, and the two squares. -/
theorem gram_eq (a b : Fin 64 → ℝ) :
    (∑ k, (a k * -2) * b k) + (∑ k, a k * a k) * 1 + 1 * (∑ k, b k * b k) = sq a b := by
  unfold sq
  rw [mul_one, one_mul, ← Finset.sum_add_distrib, ← Finset.sum_add_distrib]
  exact Finset.sum_congr rfl fun k _ => by ring

/-- A norm written so as to keep away from the root of zero is the root. -/
theorem norm_coe {s : ℝ} (h : 0 ≤ s) :
    (if ((s : ℝ) : EReal) = 0 then (0 : EReal) else Ideal.sqrt (if ((s : ℝ) : EReal) = 0 then 1 else (s : EReal)))
      = ((Real.sqrt s : ℝ) : EReal) := by
  by_cases hs : s = 0
  · subst hs; simp
  · have hs' : ((s : ℝ) : EReal) ≠ 0 := fun e => hs (by exact_mod_cast e)
    rw [if_neg hs', if_neg hs', sqrt_coe h]

variable {Z : Fin 4 → Fin 512 → Fin 64 → ℝ} {N : Fin 512 → Fin 64 → ℝ} {T : Fin 512 → ℝ}

/-- The kernel's distance. -/
theorem kernel (z : Vec Ideal S4x512x64 .f32) (n : Vec Ideal S512x64 .f32) (w : Vec Ideal S512x1 .f32)
    (hz : ∀ b t k, z (ix3 b t k) = ((Z b t k : ℝ) : EReal)) (hn : ∀ j k, n (ix2 j k) = ((N j k : ℝ) : EReal))
    (hw : ∀ t, w (ix2 t 0) = ((T t : ℝ) : EReal)) (i : Fin 2048) (j : Fin 512) :
    k0_pay11 z n w (ix2 i j) = ((dist Z N T i j : ℝ) : EReal) := by
  pointwise [k0_pay11, k0_pay10, k0_pay8, k0_pay7, k0_pay9, k0_pay6]
  have key : (if h : (i : ℕ) < 512 then w (ix2 ⟨(i : ℕ), h⟩ 0)
      else if h : (i : ℕ) - 512 < 512 then w (ix2 ⟨(i : ℕ) - 512, h⟩ 0)
      else if h : (i : ℕ) - 512 - 512 < 512 then w (ix2 ⟨(i : ℕ) - 512 - 512, h⟩ 0)
      else w (ix2 ⟨(i : ℕ) - 512 - 512 - 512, by omega⟩ 0)) = ((T ⟨i % 512, by omega⟩ : ℝ) : EReal) := by
    split_ifs <;> rw [hw] <;> exact congrArg (fun t => ((T t : ℝ) : EReal)) (Fin.ext (by dsimp only; omega))
  simp only [key, hz, hn, ← EReal.coe_mul]
  rw [Fin.sum_univ_castSucc (n := 65), Fin.sum_univ_castSucc (n := 64)]
  have h0 : ∀ x : Fin 64, (x : ℕ) < 64 := fun x => x.2
  simp [h0, c_neg_two, sum_coe, ← EReal.coe_mul, ← EReal.coe_one, ← EReal.coe_add, ← EReal.coe_neg, -EReal.coe_zero,
    -mul_neg, -neg_mul]
  have g := gram_eq (row Z T i) (N j)
  rw [mul_one, one_mul] at g
  unfold row at g
  rw [g, ← EReal.coe_zero, max_coe, max_eq_left (sq_nonneg _ _), sqrt_coe (sq_nonneg _ _)]
  rfl

end Cert.Proof.Dist

namespace Cert.Proof.Dist

open Cert.ReferenceIdeal Cert.Proof.Reals
open Idealize.ShloMosaic

variable {Z : Fin 4 → Fin 512 → Fin 64 → ℝ} {N : Fin 512 → Fin 64 → ℝ} {T : Fin 512 → ℝ}

/-- The reference's distance. -/
theorem reference (z : FVec Ideal S4x512x64 .f32) (n : FVec Ideal S16x32x64 .f32) (w : FVec Ideal S1x3500x1 .f32)
    (hz : ∀ b t k, z (ix3 b t k) = ((Z b t k : ℝ) : EReal))
    (hn : ∀ (j : Fin 512) (k : Fin 64), n (ix3 ⟨j / 32, by omega⟩ ⟨j % 32, by omega⟩ k) = ((N j k : ℝ) : EReal))
    (hw : ∀ t : Fin 512, w (ix3 0 ⟨2988 + t, by omega⟩ 0) = ((T t : ℝ) : EReal))
    (i : Fin 2048) (j : Fin 512) :
    RefTerms.dists (F := Ideal) z n w (ix2 i j) = ((dist Z N T i j : ℝ) : EReal) := by
  pointwise [RefTerms.dists, RefTerms.norms, RefTerms.sqDists, RefTerms.rows, RefTerms.flatNodes]
  simp only [hz, hn, hw ⟨i % 512, by omega⟩, ← EReal.coe_mul, ← EReal.coe_sub, sum_coe]
  exact norm_coe (sq_nonneg (row Z T i) (N j))

end Cert.Proof.Dist

end
-- ==== Proof.Assign.lean ====
/-
  The soft assignments: the kernel's and the reference's are the same real numbers, given real distances.
-/
module

public import proofs.«01_k».proof.Proof.Dist

@[expose] public section

set_option maxRecDepth 16384

noncomputable section

namespace Cert.Proof.Assign

open Cert.Proof.Reals
open Idealize.ShloMosaic

/-- Student's kernel of a distance. -/
def un (d : ℝ) : ℝ := 1 / (1 + d)

/-- Student's kernel is positive. -/
theorem un_pos {d : ℝ} (h : 0 ≤ d) : 0 < un d := by unfold un; positivity

/-- Student's kernel summed over the nodes. -/
def mass (D : Fin 2048 → Fin 512 → ℝ) (i : Fin 2048) : ℝ := ∑ j, un (D i j)

/-- The same, kept above the floor. -/
def floored (D : Fin 2048 → Fin 512 → ℝ) (i : Fin 2048) : ℝ := max (mass D i) eps

/-- The floored row sum is positive. -/
theorem floored_pos (D i) : 0 < floored D i := lt_of_lt_of_le eps_pos (le_max_right _ _)

/-- The soft assignment of row `i` to node `j`. -/
def soft (D : Fin 2048 → Fin 512 → ℝ) (i : Fin 2048) (j : Fin 512) : ℝ := un (D i j) * (1 / floored D i)

/-- One over one plus a distance, as the kernel divides. -/
theorem div_un {d : ℝ} (h : 0 ≤ d) : Ideal.div 1 (1 + (d : EReal)) = ((un d : ℝ) : EReal) := by
  rw [← EReal.coe_one, ← EReal.coe_add, div_coe _ (by positivity)]; rfl

/-- The same with the first power and the division by one of the reference. -/
theorem div_un_pow {d : ℝ} (h : 0 ≤ d) :
    Ideal.div 1 (Ideal.pow (1 + Ideal.div (d : EReal) 1) 1) = ((un d : ℝ) : EReal) := by
  have h1 : Ideal.div (d : EReal) 1 = (d : EReal) := by
    rw [← EReal.coe_one, div_coe _ one_ne_zero, div_one]
  rw [h1, ← EReal.coe_one, ← EReal.coe_add, EReal.coe_one, pow_one_coe, ← div_un h, ← EReal.coe_one, EReal.coe_add]

/-- A quotient by a sum kept above the floor is the product with its inverse. -/
theorem div_floor (a s : ℝ) :
    Ideal.div (a : EReal) (max ((s : ℝ) : EReal) ((eps : ℝ) : EReal)) = ((a * (1 / max s eps) : ℝ) : EReal) := by
  rw [max_coe, div_coe _ (lt_of_lt_of_le eps_pos (le_max_right _ _)).ne', mul_one_div]

end Cert.Proof.Assign

namespace Cert.Proof.Assign

open Cert.KernelIdeal Cert.KernelIdeal.Gen Cert.Proof.Reals
open Idealize.ShloMosaic Idealize.ShloMosaic.TcCoe

variable {D : Fin 2048 → Fin 512 → ℝ} (hD : ∀ i j, 0 ≤ D i j)
  (z : Vec Ideal S4x512x64 .f32) (n : Vec Ideal S512x64 .f32) (w : Vec Ideal S512x1 .f32)
  (h : ∀ i j, k0_pay11 z n w (ix2 i j) = ((D i j : ℝ) : EReal))
include hD h

/-- The kernel's one plus the distance. -/
theorem kernel_shifted (i : Fin 2048) (j : Fin 512) : k0_pay12 z n w (ix2 i j) = ((1 + D i j : ℝ) : EReal) := by
  pointwise [k0_pay12]
  rw [h, EReal.coe_add, EReal.coe_one]

/-- The kernel's row sums. -/
theorem kernel_floored (i : Fin 2048) : k0_pay14 z n w (ix2 i 0) = ((floored D i : ℝ) : EReal) := by
  pointwise [k0_pay14, k0_pay13, k0_pay12]
  simp only [h, fun i j => div_un (hD i j), sum_coe, c_eps, max_coe]
  rfl

/-- The kernel's soft assignments. -/
theorem kernel (i : Fin 2048) (j : Fin 512) : k0_pay15 z n w (ix2 i j) = ((soft D i j : ℝ) : EReal) := by
  pointwise [k0_pay15, k0_pay14, k0_pay13, k0_pay12]
  simp only [h, fun i j => div_un (hD i j), sum_coe, c_eps]
  rw [← EReal.coe_one, div_floor, ← EReal.coe_mul, one_mul]
  rfl

end Cert.Proof.Assign

namespace Cert.Proof.Assign

open Cert.ReferenceIdeal Cert.Proof.Reals
open Idealize.ShloMosaic

/-- The reference's soft assignments. -/
theorem reference {D : Fin 2048 → Fin 512 → ℝ} (hD : ∀ i j, 0 ≤ D i j) (d : FVec Ideal S2048x512 .f32)
    (h : ∀ i j, d (ix2 i j) = ((D i j : ℝ) : EReal)) (i : Fin 2048) (j : Fin 512) :
    RefTerms.normalised (F := Ideal) (RefTerms.student d) (ix2 i j) = ((soft D i j : ℝ) : EReal) := by
  pointwise [RefTerms.normalised, RefTerms.student, RefTerms.splat]
  simp only [h, fun i j => div_un_pow (hD i j), Ideal.absf_def, abs_coe, fun i j => abs_of_pos (un_pos (hD i j)), sum_coe, c_eps]
  rw [max_comm, div_floor]
  rfl

/-- The reference's normalisation of a positive array. -/
theorem normalised {A : Fin 2048 → Fin 512 → ℝ} (hA : ∀ i j, 0 < A i j) (a : FVec Ideal S2048x512 .f32)
    (h : ∀ i j, a (ix2 i j) = ((A i j : ℝ) : EReal)) (i : Fin 2048) (j : Fin 512) :
    RefTerms.normalised (F := Ideal) a (ix2 i j) = ((A i j * (1 / max (∑ k, A i k) eps) : ℝ) : EReal) := by
  pointwise [RefTerms.normalised]
  simp only [h, Ideal.absf_def, abs_coe, fun i j => abs_of_pos (hA i j), sum_coe, c_eps]
  rw [max_comm, div_floor]

end Cert.Proof.Assign

end
-- ==== Proof.Kl.lean ====
/-
  The divergence of the sharpened assignments from the assignments: the kernel's sum, which divides each row's sum once
  and takes the logarithm of unnormalised entries, and the reference's are the same real number, where no sum is below
  the floor.
-/
module

public import proofs.«01_k».proof.Proof.Assign

@[expose] public section

set_option maxRecDepth 16384

noncomputable section

namespace Cert.Proof.Kl

open Cert.Proof.Reals Cert.Proof.Assign
open Idealize.ShloMosaic

/-- The sum of the squared assignments to node `j`. -/
def column (D : Fin 2048 → Fin 512 → ℝ) (j : Fin 512) : ℝ := ∑ i, soft D i j * soft D i j

/-- The squared assignment over the column's sum. -/
def sharp (D : Fin 2048 → Fin 512 → ℝ) (i : Fin 2048) (j : Fin 512) : ℝ := soft D i j * soft D i j / column D j

/-- The row sums of the squared assignments so divided. -/
def rowSum (D : Fin 2048 → Fin 512 → ℝ) (i : Fin 2048) : ℝ := ∑ j, sharp D i j

/-- The target assignment. -/
def target (D : Fin 2048 → Fin 512 → ℝ) (i : Fin 2048) (j : Fin 512) : ℝ := sharp D i j * (1 / rowSum D i)

/-- The mean divergence. -/
def value (D : Fin 2048 → Fin 512 → ℝ) : ℝ :=
  (∑ i, ∑ j, target D i j * (Real.log (target D i j) - Real.log (soft D i j))) / 2048

variable {D : Fin 2048 → Fin 512 → ℝ} (hD : ∀ i j, 0 ≤ D i j)
include hD

/-- A soft assignment is positive. -/
theorem soft_pos (i j) : 0 < soft D i j := mul_pos (un_pos (hD i j)) (one_div_pos.mpr (floored_pos D i))

/-- A column's sum of squares is positive. -/
theorem column_pos (j) : 0 < column D j :=
  Finset.sum_pos (fun i _ => mul_pos (soft_pos hD i j) (soft_pos hD i j)) ⟨0, Finset.mem_univ _⟩

/-- A sharpened assignment is positive. -/
theorem sharp_pos (i j) : 0 < sharp D i j := div_pos (mul_pos (soft_pos hD i j) (soft_pos hD i j)) (column_pos hD j)

/-- A row of sharpened assignments has a positive sum. -/
theorem rowSum_pos (i) : 0 < rowSum D i := Finset.sum_pos (fun j _ => sharp_pos hD i j) ⟨0, Finset.mem_univ _⟩

/-- A target is positive. -/
theorem target_pos (i j) : 0 < target D i j := mul_pos (sharp_pos hD i j) (one_div_pos.mpr (rowSum_pos hD i))

/-- The divergence of one row, its normalisation taken out of the logarithm. -/
theorem row_eq (i : Fin 2048) :
    (∑ j, target D i j * (Real.log (target D i j) - Real.log (soft D i j)))
      = (∑ j, sharp D i j * Real.log (sharp D i j * floored D i * (1 + D i j))) * (1 / rowSum D i)
        + Real.log (1 / rowSum D i) := by
  have hR := rowSum_pos hD i
  have h1 : ∀ j, target D i j * (Real.log (target D i j) - Real.log (soft D i j))
      = sharp D i j * Real.log (sharp D i j * floored D i * (1 + D i j)) * (1 / rowSum D i)
        + Real.log (1 / rowSum D i) * (1 / rowSum D i) * sharp D i j := fun j => by
    have hs := sharp_pos hD i j
    have hf := floored_pos D i
    have hd : 0 < 1 + D i j := by have := hD i j; linarith
    have e1 : Real.log (target D i j) = Real.log (sharp D i j) + Real.log (1 / rowSum D i) :=
      Real.log_mul hs.ne' (one_div_pos.mpr hR).ne'
    have e2 : Real.log (soft D i j) = -(Real.log (1 + D i j) + Real.log (floored D i)) := by
      unfold soft un
      rw [Real.log_mul (one_div_pos.mpr hd).ne' (one_div_pos.mpr hf).ne', one_div, one_div, Real.log_inv, Real.log_inv]
      ring
    have e3 : Real.log (sharp D i j * floored D i * (1 + D i j))
        = Real.log (sharp D i j) + Real.log (floored D i) + Real.log (1 + D i j) := by
      rw [Real.log_mul (mul_pos hs hf).ne' hd.ne', Real.log_mul hs.ne' hf.ne']
    rw [e1, e2, e3]
    unfold target
    ring
  rw [Finset.sum_congr rfl fun j _ => h1 j, Finset.sum_add_distrib, ← Finset.sum_mul, ← Finset.mul_sum]
  congr 1
  show Real.log (1 / rowSum D i) * (1 / rowSum D i) * rowSum D i = _
  rw [mul_assoc, one_div_mul_cancel hR.ne', mul_one]

end Cert.Proof.Kl

namespace Cert.Proof.Kl

open Cert.KernelIdeal Cert.KernelIdeal.Gen Cert.Proof.Reals Cert.Proof.Assign
open Idealize.ShloMosaic Idealize.ShloMosaic.TcCoe

variable {D : Fin 2048 → Fin 512 → ℝ} (hD : ∀ i j, 0 ≤ D i j) (hR : ∀ i, eps ≤ rowSum D i)
include hD hR

/-- The kernel's divergence. -/
theorem kernel (a : FVec Ideal S2048x512 .f32) (b : FVec Ideal S2048x1 .f32) (c : FVec Ideal S2048x512 .f32)
    (ha : ∀ i j, a (ix2 i j) = ((1 + D i j : ℝ) : EReal)) (hb : ∀ i, b (ix2 i 0) = ((floored D i : ℝ) : EReal))
    (hc : ∀ i j, c (ix2 i j) = ((soft D i j : ℝ) : EReal)) : k0_pay16 a b c = ((value D : ℝ) : EReal) := by
  have e1 : ∀ j, Ideal.div (1 : EReal) ((∑ x, soft D x j * soft D x j : ℝ) : EReal) = ((1 / column D j : ℝ) : EReal) := fun j => by
    rw [← EReal.coe_one]; exact div_coe 1 (column_pos hD j).ne'
  have e2 : ∀ i j, soft D i j * soft D i j * (1 / column D j) = sharp D i j := fun i j => by rw [mul_one_div]; rfl
  have e3 : ∀ i, Ideal.div (1 : EReal) (max ((∑ x, sharp D i x : ℝ) : EReal) ((eps : ℝ) : EReal)) = ((1 / rowSum D i : ℝ) : EReal) := fun i => by
    rw [← EReal.coe_one, max_coe]
    show Ideal.div _ ((max (rowSum D i) eps : ℝ) : EReal) = _
    rw [max_eq_left (hR i), div_coe _ (rowSum_pos hD i).ne']
  have e4 : ∀ i j, Ideal.log ((sharp D i j * floored D i * (1 + D i j) : ℝ) : EReal)
      = ((Real.log (sharp D i j * floored D i * (1 + D i j)) : ℝ) : EReal) := fun i j =>
    log_coe (mul_pos (mul_pos (sharp_pos hD i j) (floored_pos D i)) (by have := hD i j; linarith))
  have e5 : ∀ i, Ideal.log ((1 / rowSum D i : ℝ) : EReal) = ((Real.log (1 / rowSum D i) : ℝ) : EReal) := fun i =>
    log_coe (one_div_pos.mpr (rowSum_pos hD i))
  pointwise [k0_pay16]
  simp only [ha, hb, hc, ← EReal.coe_mul, sum_coe, e1, e2, e3, e4, e5, c_eps, c_2048, Finset.univ_unique, Finset.sum_singleton,
    ← EReal.coe_add]
  rw [div_coe _ (by norm_num), ← Finset.sum_add_distrib]
  unfold value
  simp only [row_eq hD]

end Cert.Proof.Kl

namespace Cert.Proof.Kl

open Cert.ReferenceIdeal Cert.Proof.Reals Cert.Proof.Assign
open Idealize.ShloMosaic

variable {D : Fin 2048 → Fin 512 → ℝ} (hD : ∀ i j, 0 ≤ D i j) (hR : ∀ i, eps ≤ rowSum D i)
include hD hR

/-- The reference's sharpened assignments. -/
theorem ref_sharp (q : FVec Ideal S2048x512 .f32) (hq : ∀ i j, q (ix2 i j) = ((soft D i j : ℝ) : EReal)) (i : Fin 2048) (j : Fin 512) :
    RefTerms.sharpened (F := Ideal) q (ix2 i j) = ((sharp D i j : ℝ) : EReal) := by
  pointwise [RefTerms.sharpened]
  simp only [hq, ← EReal.coe_mul, sum_coe]
  exact div_coe _ (column_pos hD j).ne'

/-- The reference's divergence. -/
theorem reference (q : FVec Ideal S2048x512 .f32) (hq : ∀ i j, q (ix2 i j) = ((soft D i j : ℝ) : EReal)) (i : S_.Idx) :
    RefTerms.divergence (F := Ideal) (RefTerms.normalised (RefTerms.sharpened q)) q i = ((value D : ℝ) : EReal) := by
  have hp : ∀ i j, RefTerms.normalised (F := Ideal) (RefTerms.sharpened q) (ix2 i j) = ((target D i j : ℝ) : EReal) := fun i j => by
    rw [normalised (sharp_pos hD) _ (ref_sharp hD hR q hq)]
    show ((sharp D i j * (1 / max (rowSum D i) eps) : ℝ) : EReal) = _
    rw [max_eq_left (hR i)]; rfl
  generalize RefTerms.normalised (F := Ideal) (RefTerms.sharpened q) = p at hp ⊢
  pointwise [RefTerms.divergence]
  simp only [hp, hq, fun i j => log_coe (target_pos hD i j), fun i j => log_coe (soft_pos hD i j), ← EReal.coe_sub, ← EReal.coe_mul,
    sum_coe, c_2048]
  exact div_coe _ (by norm_num)

end Cert.Proof.Kl

end
-- ==== Proof.Inputs.lean ====
/-
  What the precondition says: every entry of the three arguments is a real of absolute value at most a million. And the
  bounds that follow: no row of Student's kernel sums to less than the floor, nor does a row of the sharpened assignments.
-/
module

public import proofs.«01_k».proof.Pre_bounded
public import proofs.«01_k».proof.Proof.Kl
public import Idealize.ShloMosaic.Lib.ReduceAll

@[expose] public section

set_option maxRecDepth 16384

noncomputable section

namespace Cert.Proof.Inputs

open Cert.Pre_bounded Cert.Proof.Reals
open Idealize.ShloMosaic

/-- The shape conditions that the precondition's program states. -/
instance facts : Cert.Pre_bounded.Facts where
  bcast_S_S4x512x64 := by decide
  reducesTo_S4x512x64_S_d0_1_2 := by decide
  h_S_ := by decide
  bcast_S_S16x32x64 := by decide
  reducesTo_S16x32x64_S_d0_1_2 := by decide
  bcast_S_S1x3500x1 := by decide
  reducesTo_S1x3500x1_S_d0_1_2 := by decide

/-- An extended real of absolute value at most a million is a real of absolute value at most a million. -/
theorem real_of_abs_le {x : EReal} (h : max x (-x) ≤ ((1000000 : ℝ) : EReal)) : ∃ r : ℝ, x = ((r : ℝ) : EReal) ∧ |r| ≤ 1000000 := by
  induction x with
  | bot => exact absurd ((le_max_right _ _).trans h) (by simp)
  | top => exact absurd ((le_max_left _ _).trans h) (by simp)
  | coe r =>
    rw [abs_coe] at h
    exact ⟨r, rfl, EReal.coe_le_coe_iff.1 h⟩

/-- A one-bit conjunction is one only where both parts are. -/
theorem and_one {a b : BitVec 1} (h : IntOp.andi a b = 1#1) : a = 1#1 ∧ b = 1#1 := by
  revert h; revert a b; decide

/-- A comparison that says one. -/
theorem le_of_cmpf {x y : EReal} (h : FloatOps.cmpf (F := Ideal) (φ := .f32) .ole x y = 1#1) : x ≤ y := by
  rw [Ideal.cmpf_def] at h
  by_contra hn
  simp [Ideal.cmp, hn] at h

variable {z : FVec Ideal S4x512x64 .f32} {n : FVec Ideal S16x32x64 .f32} {w : FVec Ideal S1x3500x1 .f32}

/-- The precondition, entry by entry. -/
theorem entries (h : fn (F := Ideal) z n w = fun _ => 1#1) :
    (∀ i, ∃ r : ℝ, z i = ((r : ℝ) : EReal) ∧ |r| ≤ 1000000) ∧ (∀ i, ∃ r : ℝ, n i = ((r : ℝ) : EReal) ∧ |r| ≤ 1000000)
      ∧ ∀ i, ∃ r : ℝ, w i = ((r : ℝ) : EReal) ∧ |r| ≤ 1000000 := by
  have h0 := congrFun h (fun a => a.elim0)
  obtain ⟨h1, hw⟩ := and_one h0
  obtain ⟨hz, hn⟩ := and_one h1
  have key : ∀ {x : EReal}, FloatOps.cmpf (F := Ideal) (φ := .f32) .ole (max x (-x)) (Ideal.ofBits .f32 0x49742400#32) = 1#1 →
      ∃ r : ℝ, x = ((r : ℝ) : EReal) ∧ |r| ≤ 1000000 := fun e => real_of_abs_le ((le_of_cmpf e).trans c_million.le)
  exact ⟨fun i => key (Host.reduce_andi_all _ _ _ _ _ hz i), fun i => key (Host.reduce_andi_all _ _ _ _ _ hn i),
    fun i => key (Host.reduce_andi_all _ _ _ _ _ hw i)⟩

end Cert.Proof.Inputs

namespace Cert.Proof.Inputs

open Cert.Proof.Reals Cert.Proof.Dist Cert.Proof.Assign Cert.Proof.Kl

variable {Z : Fin 4 → Fin 512 → Fin 64 → ℝ} {N : Fin 512 → Fin 64 → ℝ} {T : Fin 512 → ℝ}

/-- The distances of bounded inputs are bounded. -/
theorem dist_le (hZ : ∀ b t k, |Z b t k| ≤ 1000000) (hN : ∀ j k, |N j k| ≤ 1000000) (hT : ∀ t, |T t| ≤ 1000000) (i j) :
    Dist.dist Z N T i j ≤ 10 ^ 13 := by
  unfold Dist.dist
  refine Real.sqrt_le_iff.2 ⟨by norm_num, ?_⟩
  have hk : ∀ k, (row Z T i k - N j k) * (row Z T i k - N j k) ≤ (1.1 * 10 ^ 12) ^ 2 := fun k => by
    rw [← pow_two]
    refine sq_le_sq' ?_ ?_ <;>
    · have h1 : |row Z T i k| ≤ 1000000 * 1000000 := by
        unfold row
        rw [abs_mul]
        exact mul_le_mul (hZ _ _ _) (hT _) (abs_nonneg _) (by norm_num)
      have h2 := abs_le.1 h1
      have h3 := abs_le.1 (hN j k)
      norm_num at h2 h3 ⊢
      linarith [h2.1, h2.2, h3.1, h3.2]
  calc Dist.sq (row Z T i) (N j) ≤ ∑ _k : Fin 64, ((1.1 * 10 ^ 12) ^ 2 : ℝ) := Finset.sum_le_sum fun k _ => hk k
    _ ≤ (10 ^ 13) ^ 2 := by simp; norm_num

variable {D : Fin 2048 → Fin 512 → ℝ} (hD : ∀ i j, 0 ≤ D i j) (hB : ∀ i j, D i j ≤ 10 ^ 13)
include hD hB

/-- No row of Student's kernel sums to less than the floor. -/
theorem eps_le_mass (i) : eps ≤ mass D i := by
  have h : ∀ j, (1 / (1 + 10 ^ 13) : ℝ) ≤ un (D i j) := fun j =>
    one_div_le_one_div_of_le (by have := hD i j; linarith) (by have := hB i j; linarith)
  have : ∑ _j : Fin 512, (1 / (1 + 10 ^ 13) : ℝ) ≤ mass D i := Finset.sum_le_sum fun j _ => h j
  refine le_trans ?_ this
  unfold eps
  simp
  norm_num

/-- So the floor changes no row's sum. -/
theorem floored_eq (i) : floored D i = mass D i := max_eq_left (eps_le_mass hD hB i)

/-- The assignments of a row sum to one. -/
theorem sum_soft (i) : ∑ j, soft D i j = 1 := by
  unfold soft
  rw [← Finset.sum_mul, floored_eq hD hB]
  show mass D i * (1 / mass D i) = 1
  exact mul_one_div_cancel (lt_of_lt_of_le eps_pos (eps_le_mass hD hB i)).ne'

/-- No assignment exceeds one. -/
theorem soft_le_one (i j) : soft D i j ≤ 1 := by
  rw [← sum_soft hD hB i]
  exact Finset.single_le_sum (f := fun j => soft D i j) (fun k _ => (soft_pos hD i k).le) (Finset.mem_univ j)

/-- No row of the sharpened assignments sums to less than the floor. -/
theorem eps_le_rowSum (i) : eps ≤ rowSum D i := by
  have hc : ∀ j, column D j ≤ 2048 := fun j => by
    have : column D j ≤ ∑ _i : Fin 2048, (1 : ℝ) := Finset.sum_le_sum fun i _ =>
      mul_le_one₀ (soft_le_one hD hB i j) (soft_pos hD i j).le (soft_le_one hD hB i j)
    simpa using this
  have h1 : ∀ j, soft D i j ^ 2 * (1 / 2048) ≤ sharp D i j := fun j => by
    unfold sharp
    rw [mul_one_div, pow_two]
    exact div_le_div_of_nonneg_left (mul_pos (soft_pos hD i j) (soft_pos hD i j)).le (column_pos hD j) (hc j)
  have h2 : (∑ j, soft D i j ^ 2) * (1 / 2048) ≤ rowSum D i := by
    rw [Finset.sum_mul]; exact Finset.sum_le_sum fun j _ => h1 j
  have h3 : ∑ j, (soft D i j * (2 / 512) - 1 / 512 ^ 2) ≤ ∑ j, soft D i j ^ 2 := Finset.sum_le_sum fun j _ => by
    nlinarith [_root_.sq_nonneg (soft D i j - 1 / 512)]
  rw [Finset.sum_sub_distrib, ← Finset.sum_mul, sum_soft hD hB] at h3
  simp only [Finset.sum_const, Finset.card_univ, Fintype.card_fin] at h3
  norm_num at h3
  refine le_trans ?_ h2
  have : (1 / 512 : ℝ) ≤ ∑ j, soft D i j ^ 2 := by linarith
  refine le_trans ?_ (mul_le_mul_of_nonneg_right this (by norm_num))
  unfold eps
  norm_num

end Cert.Proof.Inputs

end
-- ==== Proof.Steps.lean ====
/-
  The kernel's sums over steps in time: it runs over all 2048 rows, takes the next row by a rotation, and masks the last
  row of each of the four sequences. Such a sum is the sum over the four sequences and their 511 steps.
-/
module

public import proofs.«01_k».proof.Proof.Dist

@[expose] public section

set_option maxRecDepth 16384

noncomputable section

namespace Cert.Proof.Steps

open Cert.Proof.Reals
open Idealize.ShloMosaic

/-- The row of time step `t` of sequence `b`. -/
def at' (b : Fin 4) (t : Fin 512) : Fin 2048 := ⟨b * 512 + t, by omega⟩

/-- The mask of the last row of each sequence. -/
def mask (x : Fin 2048) : ℝ := if (x : ℕ) % 512 = 511 then 0 else 1

/-- The mask as the kernel computes it. -/
theorem mask_coe (x : Fin 2048) :
    (((BitVec.setWidth 32 (IntOp.cmpi CmpIPredicate.ne (IntOp.andi (BitVec.ofNat 32 x) 511#32) 511#32)).toInt : ℝ) : EReal)
      = ((mask x : ℝ) : EReal) := by
  have hn : (BitVec.ofNat 32 (x : ℕ) &&& 511#32).toNat = (x : ℕ) % 512 := by
    rw [BitVec.toNat_and, BitVec.toNat_ofNat, Nat.mod_eq_of_lt (show (x : ℕ) < 2 ^ 32 by omega)]
    exact Nat.and_two_pow_sub_one_eq_mod (x : ℕ) 9
  have hb : (BitVec.ofNat 32 (x : ℕ) &&& 511#32 != 511#32) = decide ((x : ℕ) % 512 ≠ 511) := by
    have h : BitVec.ofNat 32 (x : ℕ) &&& 511#32 = 511#32 ↔ (x : ℕ) % 512 = 511 :=
      ⟨fun e => by rw [← hn, e]; rfl, fun e => BitVec.eq_of_toNat_eq (hn.trans e)⟩
    rw [bne, beq_eq_decide, ← decide_not]
    exact decide_eq_decide.mpr (not_congr h)
  unfold IntOp.cmpi IntOp.andi mask
  simp only [hb]
  split_ifs with h <;> simp [h]

/-- A sum over the 2048 rows, by sequence and time step. -/
theorem sum_rows (f : Fin 2048 → ℝ) : ∑ x, f x = ∑ b : Fin 4, ∑ t : Fin 512, f (at' b t) := by
  rw [← Fintype.sum_prod_type']
  refine (Fintype.sum_equiv (finProdFinEquiv (m := 4) (n := 512)) _ f fun p => congrArg f (Fin.ext ?_)).symm
  show (p.1 : ℕ) * 512 + p.2 = p.2 + 512 * p.1
  omega

/-- A masked sum over the rows is the sum over the steps. -/
theorem sum_masked (f : Fin 2048 → ℝ) :
    ∑ x, f x * mask x = ∑ b : Fin 4, ∑ t : Fin 511, f (at' b t.castSucc) := by
  rw [sum_rows]
  refine Finset.sum_congr rfl fun b _ => ?_
  rw [Fin.sum_univ_castSucc (n := 511)]
  have h1 : mask (at' b (Fin.last 511)) = 0 := if_pos (by show ((b : ℕ) * 512 + 511) % 512 = 511; omega)
  rw [h1, mul_zero, add_zero]
  refine Finset.sum_congr rfl fun t _ => ?_
  have h2 : mask (at' b t.castSucc) = 1 := if_neg (by show ¬ ((b : ℕ) * 512 + t) % 512 = 511; omega)
  rw [h2, mul_one]

/-- The row the rotation brings to `x`. -/
def nextRow (x : Fin 2048) : Fin 2048 := ⟨((x : ℕ) + 2048 - 2047) % 2048, by omega⟩

/-- Inside a sequence it is the row of the next time step. -/
theorem nextRow_at (b : Fin 4) (t : Fin 511) : nextRow (at' b t.castSucc) = at' b t.succ :=
  Fin.ext (by show ((b : ℕ) * 512 + t + 2048 - 2047) % 2048 = (b : ℕ) * 512 + (t + 1); omega)

end Cert.Proof.Steps

end
-- ==== Proof.Bmu.lean ====
/-
  The nearest nodes laid out by batch and time: the kernel stores the column of nearest nodes as four rows, one for each
  batch, and the reference reshapes it.
-/
module

public import proofs.«01_k».proof.Proof.KernelRun
public import proofs.«01_k».proof.Proof.RefTerms
public import proofs.«01_k».proof.Proof.Steps
public import Idealize.ShloMosaic.Lib.Pointwise

@[expose] public section

set_option maxRecDepth 16384

noncomputable section

namespace Cert.Proof.Bmu

open Cert.KernelIdeal Cert.KernelIdeal.Gen Cert.Proof.Steps
open Idealize.ShloMosaic Idealize.ShloMosaic.TcCoe

/-- The column's entry for a batch and a time. -/
def entry (c : IVec S2048x1 32) (b : Fin 4) (t : Fin 512) : BitVec 32 := c (ValueIdx.ix2 (at' b t) 0)

variable (d : FVec Ideal S2048x512 .f32)

/-- Batch zero's row. -/
theorem row₀ (t : Fin 512) : k0_pay18 d (ValueIdx.ix2 0 t) = entry (k0_pay17 d) 0 t := by
  pointwise [k0_pay18]
  all_goals exact congrArg _ (congrArg₂ _ (Fin.ext (by simp [at'])) rfl)

/-- Batch one's row. -/
theorem row₁ (t : Fin 512) : k0_pay20 (k0_pay19 d) (ValueIdx.ix2 0 t) = entry (k0_pay17 d) 1 t := by
  pointwise [k0_pay19, k0_pay20]
  all_goals exact congrArg _ (congrArg₂ _ (Fin.ext (by simp [at'])) rfl)

variable (c : IVec S2048x1 32)

/-- Batch two's row. -/
theorem row₂ (t : Fin 512) : k0_pay21 c (ValueIdx.ix2 0 t) = entry c 2 t := by
  pointwise [k0_pay21]
  all_goals exact congrArg _ (congrArg₂ _ (Fin.ext (by simp [at'])) rfl)

/-- Batch three's row. -/
theorem row₃ (t : Fin 512) : k0_pay22 c (ValueIdx.ix2 0 t) = entry c 3 t := by
  pointwise [k0_pay22]
  all_goals exact congrArg _ (congrArg₂ _ (Fin.ext (by simp [at'])) rfl)

/-- Where a row of the array puts its entries. -/
theorem place (o : Fin 4) (a : ℕ) (ha : a = o) (hin) (t : Fin 512) :
    (Rect.unit (s := S4x512) ![a, 0] S1x512.size hin).emb (ValueIdx.ix2 (0 : Fin 1) t) = ValueIdx.ix2 o t := by
  subst ha
  funext i
  match i with
  | ⟨0, _⟩ => exact Fin.ext (by show (o : ℕ) + 1 * 0 = o; omega)
  | ⟨1, _⟩ => exact Fin.ext (by show 0 + 1 * (t : ℕ) = t; omega)

/-- A piece that holds one batch's row, stored to that row. -/
theorem piece (o : Fin 4) (a : ℕ) (ha : a = o) (hin) (p : IVec S1x512 32) (h : ∀ t : Fin 512, p (ValueIdx.ix2 0 t) = entry c o t)
    (x : S1x512.Idx) :
    p x = (fun y : S4x512.Idx => entry c (y 0) (y 1)) ((Rect.unit (s := S4x512) ![a, 0] S1x512.size hin).emb x) := by
  obtain ⟨k, t, rfl⟩ : ∃ (a : Fin 1) (t : Fin 512), x = ValueIdx.ix2 a t := ⟨x 0, x 1, ValueIdx.eq_ix2 x⟩
  obtain rfl : k = 0 := Subsingleton.elim _ _
  exact (h t).trans (congrArg (fun y : S4x512.Idx => entry c (y 0) (y 1)) (place o a ha hin t)).symm

/-- The four pieces, read back as one array. -/
theorem pieces (p₀ p₁ p₂ p₃ : IVec S1x512 32) (h₀ : ∀ t : Fin 512, p₀ (ValueIdx.ix2 0 t) = entry c 0 t)
    (h₁ : ∀ t : Fin 512, p₁ (ValueIdx.ix2 0 t) = entry c 1 t) (h₂ : ∀ t : Fin 512, p₂ (ValueIdx.ix2 0 t) = entry c 2 t)
    (h₃ : ∀ t : Fin 512, p₃ (ValueIdx.ix2 0 t) = entry c 3 t) (y : S4x512.Idx) :
    View.canon (Val := Elt Ideal) (e := .i32) [⟨r0_7, p₃⟩, ⟨r0_6, p₂⟩, ⟨r0_5, p₁⟩, ⟨r0_4, p₀⟩] y = entry c (y 0) (y 1) := by
  have k₃ := piece c 3 3 rfl inb_S4x512_S1x512_3_0 p₃ h₃
  have k₂ := piece c 2 2 rfl inb_S4x512_S1x512_2_0 p₂ h₂
  have k₁ := piece c 1 1 rfl inb_S4x512_S1x512_1_0 p₁ h₁
  have k₀ := piece c 0 0 rfl inb_S4x512_S1x512_0_0 p₀ h₀
  refine View.canon_apply_of_pieces (Val := Elt Ideal) (e := .i32) (fun y : S4x512.Idx => entry c (y 0) (y 1)) _ ?_ y
    (cover0_5 (F := Ideal) p₃ p₂ p₁ p₀ y)
  exact List.forall_mem_cons.2 ⟨k₃, List.forall_mem_cons.2 ⟨k₂, List.forall_mem_cons.2 ⟨k₁, List.forall_mem_cons.2 ⟨k₀, by simp⟩⟩⟩⟩

variable (z : FVec Ideal S4x512x64 .f32) (n : FVec Ideal S512x64 .f32) (w : FVec Ideal S512x1 .f32)

/-- The kernel's array of nearest nodes. -/
theorem kernel (b : Fin 4) (t : Fin 512) :
    KernelRun.kBmu (F := Ideal) z n w (ValueIdx.ix2 b t) = KernelRun.kNear (F := Ideal) z n w (ValueIdx.ix2 (at' b t) 0) :=
  pieces (KernelRun.kNear (F := Ideal) z n w) _ _ _ _ (row₀ (KernelRun.kDist (F := Ideal) z n w)) (row₁ (KernelRun.kDist (F := Ideal) z n w))
    (row₂ (KernelRun.kNear (F := Ideal) z n w)) (row₃ (KernelRun.kNear (F := Ideal) z n w)) (ValueIdx.ix2 b t)

end Cert.Proof.Bmu

namespace Cert.Proof.Bmu

open Cert.ReferenceIdeal Cert.ReferenceIdeal.Gen Cert.Proof.Steps
open Idealize.ShloMosaic

/-- A column reshaped by batch and time. -/
theorem reshape (v : IVec S2048 32) (b : Fin 4) (t : Fin 512) :
    shapeCast S4x512 v shapeCasts_S2048_S4x512 (ValueIdx.ix2 b t) = v (ValueIdx.ix1 (at' b t)) := by
  pointwise
  all_goals exact congrArg _ (congrArg _ (Fin.ext (by simp [at'])))

/-- The reference's array of nearest nodes. -/
theorem reference (d : FVec Ideal S2048x512 .f32) (b : Fin 4) (t : Fin 512) :
    RefTerms.nearest (F := Ideal) d (ValueIdx.ix2 b t) = RefTerms.nearestFlat (F := Ideal) d (ValueIdx.ix1 (at' b t)) :=
  reshape (RefTerms.nearestFlat (F := Ideal) d) b t

end Cert.Proof.Bmu

end
-- ==== Proof.Smooth.lean ====
/-
  The mean squared step in time: the kernel's masked sum over rotated rows and the reference's sum over shifted slices
  are the same real number.
-/
module

public import proofs.«01_k».proof.Proof.Steps

@[expose] public section

set_option maxRecDepth 16384

noncomputable section

namespace Cert.Proof.Smooth

open Idealize.ShloMosaic

/-- The sum of the squared steps. -/
def total (Z : Fin 4 → Fin 512 → Fin 64 → ℝ) : ℝ :=
  ∑ b : Fin 4, ∑ t : Fin 511, ∑ k, (Z b t.succ k - Z b t.castSucc k) * (Z b t.succ k - Z b t.castSucc k)

/-- The measure: the mean, times the word nearest 0.9. -/
def value (Z : Fin 4 → Fin 512 → Fin 64 → ℝ) : EReal :=
  Ideal.div ((total Z : ℝ) : EReal) (Ideal.ofBits .f32 0x47FF8000#32) * Ideal.ofBits .f32 0x3F666666#32

end Cert.Proof.Smooth

namespace Cert.Proof.Smooth

open Cert.KernelIdeal Cert.KernelIdeal.Gen Cert.Proof.Reals Cert.Proof.Steps
open Idealize.ShloMosaic Idealize.ShloMosaic.TcCoe

/-- Row `x` of the flat array. -/
def flat (Z : Fin 4 → Fin 512 → Fin 64 → ℝ) (x : Fin 2048) (k : Fin 64) : ℝ := Z ⟨x / 512, by omega⟩ ⟨x % 512, by omega⟩ k

/-- A row of the flat table, by its batch and time. -/
theorem flat_at (Z : Fin 4 → Fin 512 → Fin 64 → ℝ) (b : Fin 4) (t : Fin 512) (k : Fin 64) : flat Z (at' b t) k = Z b t k := by
  have e1 : (⟨(at' b t : ℕ) / 512, by omega⟩ : Fin 4) = b := Fin.ext (by show ((b : ℕ) * 512 + t) / 512 = b; omega)
  have e2 : (⟨(at' b t : ℕ) % 512, by omega⟩ : Fin 512) = t := Fin.ext (by show ((b : ℕ) * 512 + t) % 512 = t; omega)
  unfold flat
  rw [e1, e2]

/-- The kernel's measure. -/
theorem kernel {Z : Fin 4 → Fin 512 → Fin 64 → ℝ} (z : Vec Ideal S4x512x64 .f32)
    (hz : ∀ b t k, z (ix3 b t k) = ((Z b t k : ℝ) : EReal)) : KernelRun.kTs z = value Z := by
  pointwise [KernelRun.kTs, k0_pay27, k0_pay26, k0_pay6]
  have hm : ∀ x : Fin 2048, FloatOps.sitofp (F := Ideal) FTy.f32
      (BitVec.setWidth 32 (IntOp.cmpi CmpIPredicate.ne (IntOp.andi (BitVec.ofNat 32 x) 511#32) 511#32)) = ((mask x : ℝ) : EReal) := mask_coe
  have hs : (∑ x : Fin 2048, ∑ k : Fin 64, (flat Z (nextRow x) k - flat Z x k) * (flat Z (nextRow x) k - flat Z x k) * mask x) = total Z := by
    simp only [← Finset.sum_mul]
    rw [sum_masked fun x => ∑ k : Fin 64, (flat Z (nextRow x) k - flat Z x k) * (flat Z (nextRow x) k - flat Z x k)]
    simp only [nextRow_at, flat_at]
    rfl
  simp only [hz, hm, ← EReal.coe_mul, ← EReal.coe_sub, sum_coe]
  exact congrArg (fun r : ℝ => Ideal.div (r : EReal) (Ideal.ofBits .f32 0x47FF8000#32) * Ideal.ofBits .f32 0x3F666666#32) hs

end Cert.Proof.Smooth

namespace Cert.Proof.Smooth

open Cert.ReferenceIdeal Cert.Proof.Reals Cert.Proof.Steps
open Idealize.ShloMosaic

/-- The reference's measure. -/
theorem reference {Z : Fin 4 → Fin 512 → Fin 64 → ℝ} (z : FVec Ideal S4x512x64 .f32)
    (hz : ∀ b t k, z (ix3 b t k) = ((Z b t k : ℝ) : EReal)) (i : S_.Idx) :
    RefTerms.smoothness (F := Ideal) z i = value Z := by
  pointwise [RefTerms.smoothness, RefTerms.steps]
  have e : ∀ t : Fin 511, (⟨1 + (t : ℕ), by omega⟩ : Fin 512) = t.succ := fun t => Fin.ext (Nat.add_comm _ _)
  simp only [hz, e, ← EReal.coe_mul, ← EReal.coe_sub, sum_coe]
  rfl

end Cert.Proof.Smooth

end
-- ==== Proof.Diversity.lean ====
/-
  Minus the mean distance of two nodes: the kernel's, from the augmented product with its diagonal set to zero, and the
  reference's, from the differences, are the same real number.
-/
module

public import proofs.«01_k».proof.Proof.Dist

@[expose] public section

set_option maxRecDepth 16384

noncomputable section

namespace Cert.Proof.Diversity

open Cert.Proof.Reals Cert.Proof.Dist
open Idealize.ShloMosaic

/-- Minus the mean distance of two nodes. -/
def value (N : Fin 512 → Fin 64 → ℝ) : ℝ := -((∑ i, ∑ j, Real.sqrt (sq (N i) (N j))) / 262144)

/-- A node is at distance zero from itself. -/
theorem sq_self (a : Fin 64 → ℝ) : sq a a = 0 := by simp [Dist.sq]

end Cert.Proof.Diversity

namespace Cert.Proof.Diversity

open Cert.KernelIdeal Cert.KernelIdeal.Gen Cert.Proof.Reals Cert.Proof.Dist
open Idealize.ShloMosaic Idealize.ShloMosaic.TcCoe

variable {N : Fin 512 → Fin 64 → ℝ}

/-- Two small numbers' words are equal exactly when the numbers are. -/
theorem ofNat_eq (i j : Fin 512) :
    IntOp.cmpi CmpIPredicate.eq (BitVec.ofNat 32 i) (BitVec.ofNat 32 j) = if (i : ℕ) = j then 1#1 else 0#1 := by
  have : (BitVec.ofNat 32 i == BitVec.ofNat 32 j) = decide ((i : ℕ) = j) := by
    rw [beq_eq_decide]
    refine decide_eq_decide.mpr ⟨fun e => ?_, fun e => by rw [e]⟩
    have := congrArg BitVec.toNat e
    rwa [BitVec.toNat_ofNat, BitVec.toNat_ofNat, Nat.mod_eq_of_lt (by omega), Nat.mod_eq_of_lt (by omega)] at this
  unfold IntOp.cmpi
  simp only [this]
  split_ifs with h <;> simp [h]

/-- One entry of the kernel's table of distances between nodes. -/
theorem entry (i j : Fin 512) :
    Scalar.select (IntOp.cmpi CmpIPredicate.eq (BitVec.ofNat 32 i) (BitVec.ofNat 32 j)) (0 : EReal)
      ((Real.sqrt (sq (N i) (N j)) : ℝ) : EReal) = ((Real.sqrt (sq (N i) (N j)) : ℝ) : EReal) := by
  rw [ofNat_eq]
  by_cases h : i = j
  · subst h; simp [Scalar.select, sq_self]
  · rw [if_neg (fun e => h (Fin.ext e))]; simp [Scalar.select]

/-- The kernel's measure. -/
theorem kernel (n : Vec Ideal S512x64 .f32) (hn : ∀ j k, n (ix2 j k) = ((N j k : ℝ) : EReal)) :
    KernelRun.kDiv n = ((value N : ℝ) : EReal) := by
  pointwise [KernelRun.kDiv, k0_pay25, KernelRun.kGram, k0_pay24, k0_pay10, k0_pay9, k0_pay8, k0_pay7]
  simp only [hn, Fin.sum_univ_castSucc (n := 65), Fin.sum_univ_castSucc (n := 64)]
  have h0 : ∀ x : Fin 64, (x : ℕ) < 64 := fun x => x.2
  simp [h0, c_neg_two, c_262144, sum_coe, ← EReal.coe_mul, ← EReal.coe_one, ← EReal.coe_add, ← EReal.coe_neg, -EReal.coe_zero,
    -mul_neg, -neg_mul]
  have g : ∀ i j, (∑ k, N i k * -2 * N j k + ∑ k, N i k * N i k + ∑ k, N j k * N j k) = Dist.sq (N i) (N j) := fun i j => by
    have := gram_eq (N i) (N j)
    rwa [mul_one, one_mul] at this
  simp only [g, ← EReal.coe_zero, max_coe, fun i j => max_eq_left (sq_nonneg (N i) (N j)), fun i j => sqrt_coe (sq_nonneg (N i) (N j))]
  simp only [EReal.coe_zero, entry, sum_coe]
  rw [div_coe _ (by norm_num), ← EReal.coe_neg]
  rfl

end Cert.Proof.Diversity

namespace Cert.Proof.Diversity

open Cert.ReferenceIdeal Cert.Proof.Reals Cert.Proof.Dist
open Idealize.ShloMosaic

/-- The reference's measure. -/
theorem reference {N : Fin 512 → Fin 64 → ℝ} (n : FVec Ideal S512x64 .f32)
    (hn : ∀ j k, n (ix2 j k) = ((N j k : ℝ) : EReal)) (i : S_.Idx) :
    RefTerms.diversity (F := Ideal) n i = ((value N : ℝ) : EReal) := by
  pointwise [RefTerms.diversity, RefTerms.nodeNorms, RefTerms.nodeSq, RefTerms.nodeDiffs]
  simp only [hn, ← EReal.coe_mul, ← EReal.coe_sub, sum_coe]
  have e : ∀ x y : Fin 512, (∑ k, (N y k - N x k) * (N y k - N x k)) = sq (N x) (N y) := fun x y =>
    Finset.sum_congr rfl fun k _ => by ring
  simp only [e, fun x y => norm_coe (sq_nonneg (N x) (N y)), sum_coe, c_262144]
  rw [div_coe _ (by norm_num), ← EReal.coe_neg]
  rfl

end Cert.Proof.Diversity

end
-- ==== Proof.Near.lean ====
/-
  The nearest node of each row. Both programs take, of the nodes at the least distance, the one of the least index: the
  kernel by a minimum over the indices where the distance equals the row's minimum, the reference by a reduction of
  (distance, index) pairs.
-/
module

public import proofs.«01_k».proof.Proof.Diversity

@[expose] public section

set_option maxRecDepth 16384

noncomputable section

namespace Cert.Proof.Near

open Idealize.ShloMosaic

/-- `j` is the first node at the least distance. -/
def First (d : Fin 512 → ℝ) (j : Fin 512) : Prop := (∀ k, d j ≤ d k) ∧ ∀ k, k < j → d j < d k

/-- There is such a node. -/
theorem exists_first (d : Fin 512 → ℝ) : ∃ j, First d j := by
  obtain ⟨j₀, -, h₀⟩ := Finset.exists_min_image Finset.univ d ⟨0, Finset.mem_univ _⟩
  have hne : (Finset.univ.filter fun j => d j = d j₀).Nonempty := ⟨j₀, by simp⟩
  refine ⟨(Finset.univ.filter fun j => d j = d j₀).min' hne, ?_⟩
  have hm := (Finset.mem_filter.1 (Finset.min'_mem _ hne)).2
  refine ⟨fun k => hm.le.trans (h₀ k (Finset.mem_univ _)), fun k hk => ?_⟩
  rw [hm]
  refine lt_of_le_of_ne (h₀ k (Finset.mem_univ _)) fun e => ?_
  exact absurd (Finset.min'_le (Finset.univ.filter fun j => d j = d j₀) k (by simp [e])) (not_le.2 hk)

/-- The nearest node of a row of distances. -/
def best (d : Fin 512 → ℝ) : Fin 512 := (exists_first d).choose

/-- It is the first at the least distance. -/
theorem best_first (d : Fin 512 → ℝ) : First d (best d) := (exists_first d).choose_spec

/-! ## The kernel's minimum -/

/-- The minimum of a row is the distance of its nearest node. -/
theorem fold_min (d : Fin 512 → ℝ) :
    Finset.fold min (⊤ : EReal) (fun k => ((d k : ℝ) : EReal)) Finset.univ = ((d (best d) : ℝ) : EReal) := by
  apply le_antisymm
  · exact (Finset.fold_min_le _).2 (Or.inr ⟨best d, Finset.mem_univ _, le_rfl⟩)
  · exact (Finset.le_fold_min _).2 ⟨le_top, fun k _ => EReal.coe_le_coe_iff.2 ((best_first d).1 k)⟩

/-- The signed value of the lesser of two words. -/
theorem toInt_minsi (a b : BitVec 32) : (IntOp.minsi a b).toInt = min a.toInt b.toInt := by
  unfold IntOp.minsi
  rw [BitVec.slt_eq_decide]
  by_cases h : a.toInt < b.toInt
  · rw [if_pos (decide_eq_true h), min_eq_left h.le]
  · rw [if_neg (fun e => h (of_decide_eq_true e)), min_eq_right (not_lt.1 h)]

/-- The signed value of a small number's word. -/
theorem toInt_small (k : Fin 512) : (BitVec.ofNat 32 (k : ℕ)).toInt = ((k : ℕ) : ℤ) := by
  have e : (BitVec.ofNat 32 (k : ℕ)).toNat = (k : ℕ) := by
    rw [BitVec.toNat_ofNat, Nat.mod_eq_of_lt (by omega)]
  rw [BitVec.toInt_eq_toNat_of_lt (by rw [e]; omega), e]

/-- The least index among those at the least distance is the nearest node's. -/
theorem fold_index (d : Fin 512 → ℝ) :
    Finset.fold IntOp.minsi (2147483647#32) (fun k : Fin 512 => if d k = d (best d) then BitVec.ofNat 32 (k : ℕ) else 512#32) Finset.univ
      = BitVec.ofNat 32 (best d : ℕ) := by
  apply BitVec.eq_of_toInt_eq
  rw [← Finset.fold_hom (op := IntOp.minsi) (op' := min) (m := BitVec.toInt) toInt_minsi, toInt_small]
  apply le_antisymm
  · refine (Finset.fold_min_le _).2 (Or.inr ⟨best d, Finset.mem_univ _, ?_⟩)
    rw [if_pos rfl, toInt_small]
  · refine (Finset.le_fold_min _).2 ⟨?_, fun k _ => ?_⟩
    · have := (best d).2
      show ((best d : ℕ) : ℤ) ≤ 2147483647
      omega
    · by_cases h : d k = d (best d)
      · rw [if_pos h, toInt_small]
        have : best d ≤ k := not_lt.1 fun hk => ((best_first d).2 k hk).ne' h
        exact_mod_cast this
      · rw [if_neg h]
        have := (best d).2
        show ((best d : ℕ) : ℤ) ≤ 512
        omega

/-! ## The reference's reduction of pairs -/

/-- A left fold ends at an element that wins against every element allowed, if the list holds it. -/
theorem foldl_best {α : Type} (f : α → α → α) (P : α → Prop) (b : α) (h1 : ∀ a, P a → f a b = b) (h2 : ∀ a, P a → f b a = b)
    (hc : ∀ a a', P a → P a' → P (f a a')) : ∀ (L : List α) (a : α), P a → (∀ x ∈ L, P x) → (b ∈ L ∨ a = b) → L.foldl f a = b
  | [], a, _, _, hm => by
    rcases hm with h | h
    · simp at h
    · exact h
  | x :: L, a, ha, hL, hm => by
    have hx := hL x List.mem_cons_self
    refine foldl_best f P b h1 h2 hc L (f a x) (hc a x ha hx) (fun y hy => hL y (List.mem_cons_of_mem _ hy)) ?_
    rcases hm with h | rfl
    · rcases List.mem_cons.1 h with rfl | h
      · exact Or.inr (h1 a ha)
      · exact Or.inl h
    · exact Or.inr (h2 x hx)

end Cert.Proof.Near

namespace Cert.Proof.Near

open Cert.KernelIdeal Cert.KernelIdeal.Gen Cert.Proof.Reals
open Idealize.ShloMosaic Idealize.ShloMosaic.TcCoe

/-- The kernel's nearest node. -/
theorem kernel {D : Fin 2048 → Fin 512 → ℝ} (d : FVec Ideal S2048x512 .f32) (h : ∀ i j, d (ix2 i j) = ((D i j : ℝ) : EReal))
    (i : Fin 2048) : k0_pay17 (F := Ideal) d (ix2 i 0) = BitVec.ofNat 32 (best (D i) : ℕ) := by
  pointwise [k0_pay17]
  simp only [h, c_inf, fold_min, EReal.coe_eq_coe_iff]
  exact fold_index (D i)

end Cert.Proof.Near

namespace Cert.Proof.Near

open Cert.ReferenceIdeal Cert.ReferenceIdeal.Gen Cert.Proof.Reals
open Idealize.ShloMosaic

/-- The pair the reduction keeps of two: the one of the lesser distance, at equal distances of the lesser index. -/
theorem reducer (a b : EReal × BitVec 32) :
    reducer_argmin_f32_i32 (F := Ideal) a b = if a.1 < b.1 ∨ (a.1 = b.1 ∧ a.2.toInt < b.2.toInt) then a else b := by
  obtain ⟨a1, a2⟩ := a
  obtain ⟨b1, b2⟩ := b
  unfold reducer_argmin_f32_i32
  by_cases h1 : a1 < b1 <;> by_cases h2 : a1 = b1 <;> by_cases h3 : a2.toInt < b2.toInt <;>
    simp [Ideal.cmpf_def, Ideal.cmp, IntOp.cmpi, IntOp.ori, IntOp.andi, Scalar.select, BitVec.slt_eq_decide, h1, h2, h3]

/-- What a pair of the reduction may be: the nearest node's, or one that loses against it. -/
def Loses (d : Fin 512 → ℝ) (p : EReal × BitVec 32) : Prop :=
  p = (((d (best d) : ℝ) : EReal), BitVec.ofNat 32 (best d : ℕ))
    ∨ ((d (best d) : ℝ) : EReal) < p.1 ∨ (p.1 = ((d (best d) : ℝ) : EReal) ∧ ((best d : ℕ) : ℤ) < p.2.toInt)

/-- The reduction of a row's pairs, in any order, is the nearest node's pair. -/
theorem foldl_pairs (d : Fin 512 → ℝ) (L : List (EReal × BitVec 32))
    (hL : ∀ p, p ∈ L ↔ ∃ k : Fin 512, p = (((d k : ℝ) : EReal), BitVec.ofNat 32 (k : ℕ))) :
    L.foldl (reducer_argmin_f32_i32 (F := Ideal)) (⊤, 0#32) = (((d (best d) : ℝ) : EReal), BitVec.ofNat 32 (best d : ℕ)) := by
  refine foldl_best _ (Loses d) _ (fun a ha => ?_) (fun a ha => ?_) (fun a a' ha ha' => ?_) L _ (Or.inr (Or.inl (EReal.coe_lt_top _)))
    (fun p hp => ?_) (Or.inl ((hL _).2 ⟨_, rfl⟩))
  · rw [reducer]
    rcases ha with rfl | h | ⟨h, h'⟩
    · exact ite_self _
    · rw [if_neg]
      rintro (e | ⟨e, -⟩)
      · exact absurd h (not_lt.2 e.le)
      · exact absurd h (not_lt.2 e.le)
    · rw [if_neg]
      rw [toInt_small]
      rintro (e | ⟨-, e⟩)
      · exact absurd e (not_lt.2 h.ge)
      · exact absurd h' (not_lt.2 e.le)
  · rw [reducer]
    rcases ha with rfl | h | ⟨h, h'⟩
    · exact ite_self _
    · rw [if_pos (Or.inl h)]
    · rw [if_pos (Or.inr ⟨h.symm, by rw [toInt_small]; exact h'⟩)]
  · rw [reducer]
    split_ifs
    · exact ha
    · exact ha'
  · obtain ⟨k, rfl⟩ := (hL p).1 hp
    rcases lt_or_eq_of_le ((best_first d).1 k) with h | h
    · exact Or.inr (Or.inl (EReal.coe_lt_coe_iff.2 h))
    · rcases lt_trichotomy k (best d) with hk | rfl | hk
      · exact absurd h ((best_first d).2 k hk).ne
      · exact Or.inl rfl
      · exact Or.inr (Or.inr ⟨by rw [h], by rw [toInt_small]; exact_mod_cast hk⟩)

/-- The reference's nearest node. -/
theorem reference_flat {D : Fin 2048 → Fin 512 → ℝ} (d : FVec Ideal S2048x512 .f32) (h : ∀ i j, d (ix2 i j) = ((D i j : ℝ) : EReal))
    (i : Fin 2048) : RefTerms.nearestFlat (F := Ideal) d (ix1 i) = BitVec.ofNat 32 (best (D i) : ℕ) := by
  unfold RefTerms.nearestFlat RefOps.argminIdx
  rw [Ideal.argReduce_eq_reduce2, Host.reduce2_eq_foldl_fiber]
  have e : (constant (F := Ideal) S_ .f32 0x7F800000#32 (Shape.Idx.first h_S_), constantI S_ 32 0#32 (Shape.Idx.first h_S_)) = ((⊤ : EReal), 0#32) :=
    Prod.ext c_inf rfl
  rw [e, foldl_pairs (D i)]
  intro p
  unfold Host.argReduceFiber
  simp only [List.mem_map, List.mem_filter, List.mem_finRange, true_and, decide_eq_true_eq]
  constructor
  · rintro ⟨x, hx, rfl⟩
    obtain ⟨k, hk⟩ := (Shape.ReducesTo.fiber_r2_a1 reducesTo_S2048x512_S2048_d1 (ix1 i) _).1 hx
    refine ⟨k, ?_⟩
    rw [← hk]
    exact Prod.ext (h i k) rfl
  · rintro ⟨k, rfl⟩
    refine ⟨S2048x512.rowMajor (ix2 i k), ?_, ?_⟩
    · rw [Equiv.symm_apply_apply]
      exact (Shape.ReducesTo.fiber_r2_a1 reducesTo_S2048x512_S2048_d1 (ix1 i) _).2 ⟨k, rfl⟩
    · rw [Equiv.symm_apply_apply]
      exact Prod.ext (h i k) rfl

end Cert.Proof.Near

end
-- ==== Proof.Moved.lean ====
/-
  The moved rows: the kernel's product with a one-hot matrix and the reference's gather read the same node.
-/
module

public import proofs.«01_k».proof.Proof.Near
public import proofs.«01_k».proof.Proof.Steps
public import Idealize.ShloMosaic.Lib.Routing.Ops

@[expose] public section

set_option maxRecDepth 16384

noncomputable section

namespace Cert.Proof.Moved

open Cert.Proof.Steps
open Idealize.ShloMosaic

/-- One feature of a row moved a tenth of the way towards its node. -/
def value (Z : Fin 4 → Fin 512 → Fin 64 → ℝ) (N : Fin 512 → Fin 64 → ℝ) (B : Fin 2048 → Fin 512) (b : Fin 4) (t : Fin 512) (k : Fin 64) :
    EReal :=
  ((Z b t k : ℝ) : EReal) + Ideal.ofBits .f32 0x3DCCCCCD#32 * (((N (B (at' b t)) k : ℝ) : EReal) - ((Z b t k : ℝ) : EReal))

end Cert.Proof.Moved

namespace Cert.Proof.Moved

open Cert.KernelIdeal Cert.KernelIdeal.Gen Cert.Proof.Reals Cert.Proof.Steps
open Idealize.ShloMosaic Idealize.ShloMosaic.TcCoe

/-- An entry of the one-hot matrix. -/
theorem onehot (x j : Fin 512) :
    FloatOps.sitofp (F := Ideal) FTy.f32 (BitVec.setWidth 32 (IntOp.cmpi CmpIPredicate.eq (BitVec.ofNat 32 x) (BitVec.ofNat 32 j)))
      = if x = j then (1 : EReal) else 0 := by
  rw [Diversity.ofNat_eq]
  show (((BitVec.setWidth 32 (if (x : ℕ) = j then 1#1 else 0#1)).toInt : ℝ) : EReal) = _
  by_cases h : x = j
  · rw [if_pos (congrArg Fin.val h), if_pos h]; simp
  · rw [if_neg (fun e => h (Fin.ext e)), if_neg h]; simp

variable {Z : Fin 4 → Fin 512 → Fin 64 → ℝ} {N : Fin 512 → Fin 64 → ℝ} {B : Fin 2048 → Fin 512}

/-- The kernel's moved rows. -/
theorem kernel (z : Vec Ideal S4x512x64 .f32) (n : Vec Ideal S512x64 .f32) (c : IVec S2048x1 32)
    (hz : ∀ b t k, z (ix3 b t k) = ((Z b t k : ℝ) : EReal)) (hn : ∀ j k, n (ix2 j k) = ((N j k : ℝ) : EReal))
    (hc : ∀ i, c (ix2 i 0) = BitVec.ofNat 32 (B i : ℕ)) (b : Fin 4) (t : Fin 512) (k : Fin 64) :
    k0_pay23 (F := Ideal) (k0_pay6 z) (k0_pay7 n) (iota .tc S2048x512 32 [1] iota_S2048x512_d1_w32) c (ix3 b t k) = value Z N B b t k := by
  have e1 : (⟨((b : ℕ) * 512 + t) / 512, by omega⟩ : Fin 4) = b := Fin.ext (by show ((b : ℕ) * 512 + t) / 512 = b; omega)
  have e2 : (⟨((b : ℕ) * 512 + t) % 512, by omega⟩ : Fin 512) = t := Fin.ext (by show ((b : ℕ) * 512 + t) % 512 = t; omega)
  pointwise [k0_pay23, k0_pay6, k0_pay7]
  simp only [hz, hn, hc, onehot, e1, e2, ite_mul, one_mul, zero_mul]
  have hs : (∑ x : Fin 512, if x = B (at' b t) then ((N x k : ℝ) : EReal) else 0) = ((N (B (at' b t)) k : ℝ) : EReal) := by
    rw [Finset.sum_eq_single (B (at' b t)) (fun x _ hx => if_neg hx) fun h => absurd (Finset.mem_univ _) h, if_pos rfl]
  exact congrArg (fun r : EReal => ((Z b t k : ℝ) : EReal) + Ideal.ofBits .f32 0x3DCCCCCD#32 * (r - ((Z b t k : ℝ) : EReal))) hs

end Cert.Proof.Moved

namespace Cert.Proof.Moved

open Cert.ReferenceIdeal Cert.ReferenceIdeal.Gen Cert.Proof.Reals Cert.Proof.Steps
open Idealize.ShloMosaic

variable {Z : Fin 4 → Fin 512 → Fin 64 → ℝ} {N : Fin 512 → Fin 64 → ℝ} {B : Fin 2048 → Fin 512}

/-- A node's index is never negative, so the gather reads it as it is. -/
theorem not_neg (j : Fin 512) : Scalar.select (IntOp.cmpi CmpIPredicate.slt (BitVec.ofNat 32 j) 0#32)
    (IntOp.addi (BitVec.ofNat 32 j) 512#32) (BitVec.ofNat 32 j) = BitVec.ofNat 32 (j : ℕ) := by
  have : IntOp.cmpi CmpIPredicate.slt (BitVec.ofNat 32 (j : ℕ)) 0#32 = 0#1 := by
    unfold IntOp.cmpi
    simp only [BitVec.slt_eq_decide, Near.toInt_small]
    rw [decide_eq_false (by simp)]; rfl
  rw [this]; rfl

/-- The reference's moved rows. -/
theorem reference (z : FVec Ideal S4x512x64 .f32) (n : FVec Ideal S512x64 .f32) (c : IVec S4x512 32)
    (hz : ∀ b t k, z (ix3 b t k) = ((Z b t k : ℝ) : EReal)) (hn : ∀ j k, n (ix2 j k) = ((N j k : ℝ) : EReal))
    (hc : ∀ b t, c (ix2 b t) = BitVec.ofNat 32 (B (at' b t) : ℕ)) (b : Fin 4) (t : Fin 512) (k : Fin 64) :
    RefTerms.moved (F := Ideal) z n c (ix3 b t k) = value Z N B b t k := by
  have hp : ∀ x : Fin 2048, RefTerms.pick c (ix2 x 0) = BitVec.ofNat 32 (B x : ℕ) := fun x => by
    have e : at' ⟨(x : ℕ) / 512, by omega⟩ ⟨(x : ℕ) % 512, by omega⟩ = x := Fin.ext (by show (x : ℕ) / 512 * 512 + x % 512 = x; omega)
    pointwise [RefTerms.pick]
    simp only [hc, e, not_neg]
  have hg := Routing.gather_row (nb := 512) (B := 64) (n := 2048) gather_S512x64_S2048x1_S2048x64_1_0_n_n_0_1_164 rfl rfl rfl rfl rfl n
    (RefTerms.pick c) (at' b t) k (B (at' b t)) (hp (at' b t)) (by norm_num)
  pointwise [RefTerms.moved]
  rw [hz]
  exact congrArg (fun r : EReal => ((Z b t k : ℝ) : EReal) + Ideal.ofBits .f32 0x3DCCCCCD#32 * (r - ((Z b t k : ℝ) : EReal)))
    (hg.trans (hn _ _))

end Cert.Proof.Moved

end
-- ==== Proof.Neighbours.lean ====
/-
  The mean grid distance of neighbours in time: the kernel splits a node's index by a shift and a mask and sums over all
  rows at once, the reference by division and remainder and first over each sequence. They are the same real number.
-/
module

public import proofs.«01_k».proof.Proof.Near
public import proofs.«01_k».proof.Proof.Steps

@[expose] public section

set_option maxRecDepth 16384

noncomputable section

namespace Cert.Proof.Neighbours

open Cert.Proof.Steps
open Idealize.ShloMosaic

/-- The word of the grid distance of two nodes: rows and columns apart. -/
def gridDist (a b : Fin 512) : BitVec 32 :=
  IntOp.addi (IntOp.absi (IntOp.subi (BitVec.ofNat 32 (a / 32 : ℕ)) (BitVec.ofNat 32 (b / 32 : ℕ))))
    (IntOp.absi (IntOp.subi (BitVec.ofNat 32 (a % 32 : ℕ)) (BitVec.ofNat 32 (b % 32 : ℕ))))

/-- The mean grid distance of the nodes of neighbours in time. -/
def value (B : Fin 2048 → Fin 512) : ℝ :=
  (∑ b : Fin 4, ∑ t : Fin 511, ((gridDist (B (at' b t.castSucc)) (B (at' b t.succ))).toInt : ℝ)) / 2044

end Cert.Proof.Neighbours

namespace Cert.Proof.Neighbours

open Cert.KernelIdeal Cert.KernelIdeal.Gen Cert.Proof.Reals Cert.Proof.Steps
open Idealize.ShloMosaic Idealize.ShloMosaic.TcCoe

/-- The shift by five is the division by 32. -/
theorem shift (j : Fin 512) : IntOp.shrsi ArithUnit.vector (BitVec.ofNat 32 j) 5#32 = BitVec.ofNat 32 (j / 32 : ℕ) := by
  revert j; decide +kernel

/-- The mask by 31 is the remainder by 32. -/
theorem low (j : Fin 512) : IntOp.andi (BitVec.ofNat 32 j) 31#32 = BitVec.ofNat 32 (j % 32 : ℕ) := by
  revert j; decide +kernel

/-- The kernel's measure. -/
theorem kernel {B : Fin 2048 → Fin 512} (c : IVec S2048x1 32) (hc : ∀ i, c (ix2 i 0) = BitVec.ofNat 32 (B i : ℕ)) :
    k0_pay28 (F := Ideal) c = ((value B : ℝ) : EReal) := by
  pointwise [k0_pay28, k0_pay26]
  have hm : ∀ x : Fin 2048, FloatOps.sitofp (F := Ideal) FTy.f32
      (BitVec.setWidth 32 (IntOp.cmpi CmpIPredicate.ne (IntOp.andi (BitVec.ofNat 32 x) 511#32) 511#32)) = ((mask x : ℝ) : EReal) := mask_coe
  have hf : ∀ v : BitVec 32, FloatOps.sitofp (F := Ideal) FTy.f32 v = ((v.toInt : ℝ) : EReal) := fun _ => rfl
  simp only [hm, hc, shift, low, hf, ← EReal.coe_mul, sum_coe, Finset.univ_unique, Finset.sum_singleton, c_2044]
  rw [div_coe _ (by norm_num)]
  have hs := sum_masked fun x => ((gridDist (B x) (B (nextRow x))).toInt : ℝ)
  simp only [nextRow_at] at hs
  exact congrArg (fun r : ℝ => ((r / 2044 : ℝ) : EReal)) hs

end Cert.Proof.Neighbours

namespace Cert.Proof.Neighbours

open Cert.ReferenceIdeal Cert.ReferenceIdeal.Gen Cert.Proof.Reals Cert.Proof.Steps
open Idealize.ShloMosaic

/-- The reference's floor division of a node's index, read at an entry. -/
theorem floorDiv (v : IVec S4x511 32) (b : Fin 4) (t : Fin 511) (j : Fin 512) (h : v (ix2 b t) = BitVec.ofNat 32 (j : ℕ)) :
    RefTerms.floorDiv32 v (ix2 b t) = BitVec.ofNat 32 (j / 32 : ℕ) := by
  pointwise [RefTerms.floorDiv32, RefTerms.isplat]
  rw [h]
  clear h v
  revert j; decide +kernel

/-- The reference's remainder of a node's index, read at an entry. -/
theorem floorMod (v : IVec S4x511 32) (b : Fin 4) (t : Fin 511) (j : Fin 512) (h : v (ix2 b t) = BitVec.ofNat 32 (j : ℕ)) :
    RefTerms.floorMod32 v (ix2 b t) = BitVec.ofNat 32 (j % 32 : ℕ) := by
  pointwise [RefTerms.floorMod32, RefTerms.isplat, RefTerms.modulus]
  rw [h]
  clear h v
  revert j; decide +kernel

/-- The reference's measure. -/
theorem reference {B : Fin 2048 → Fin 512} (c : IVec S4x512 32) (hc : ∀ b t, c (ix2 b t) = BitVec.ofNat 32 (B (at' b t) : ℕ)) (i : S_.Idx) :
    RefTerms.consistency (F := Ideal) (RefTerms.coordSteps c) i = ((value B : ℝ) : EReal) := by
  have hb : ∀ b t, RefTerms.before c (ix2 b t) = BitVec.ofNat 32 (B (at' b t.castSucc) : ℕ) := fun b t => by
    pointwise [RefTerms.before]
    exact hc b t.castSucc
  have hx : ∀ b t, RefTerms.next c (ix2 b t) = BitVec.ofNat 32 (B (at' b t.succ) : ℕ) := fun b t => by
    pointwise [RefTerms.next]
    have e : (⟨1 + (t : ℕ), by omega⟩ : Fin 512) = t.succ := Fin.ext (Nat.add_comm _ _)
    rw [e]; exact hc b t.succ
  have hd : ∀ b t (k : Fin 2), RefTerms.coordSteps c (ix3 b t k) =
      if (k : ℕ) < 1 then IntOp.subi (BitVec.ofNat 32 (B (at' b t.castSucc) / 32 : ℕ)) (BitVec.ofNat 32 (B (at' b t.succ) / 32 : ℕ))
      else IntOp.subi (BitVec.ofNat 32 (B (at' b t.castSucc) % 32 : ℕ)) (BitVec.ofNat 32 (B (at' b t.succ) % 32 : ℕ)) := fun b t k => by
    have p : ∀ v : IVec S4x511 32, RefTerms.coords v (ix3 b t k)
        = if (k : ℕ) < 1 then RefTerms.floorDiv32 v (ix2 b t) else RefTerms.floorMod32 v (ix2 b t) := fun v => by
      pointwise [RefTerms.coords, RefOps.pairUp]
      split_ifs <;> rfl
    show IntOp.subi (RefTerms.coords _ _) (RefTerms.coords _ _) = _
    rw [p, p, floorDiv _ _ _ _ (hb b t), floorDiv _ _ _ _ (hx b t), floorMod _ _ _ _ (hb b t), floorMod _ _ _ _ (hx b t)]
    split_ifs <;> rfl
  have hg : ∀ b t, Finset.fold IntOp.addi (0#32) (fun k : Fin 2 => IntOp.absi (RefTerms.coordSteps c (ix3 b t k))) Finset.univ
      = gridDist (B (at' b t.castSucc)) (B (at' b t.succ)) := fun b t => by
    rw [show (Finset.univ : Finset (Fin 2)) = insert 0 {1} from rfl, Finset.fold_insert (by decide), Finset.fold_singleton, hd, hd]
    unfold gridDist IntOp.addi
    rw [if_pos (by decide), if_neg (by decide), BitVec.add_zero]
  pointwise [RefTerms.consistency]
  have hf : ∀ v : BitVec 32, FloatOps.sitofp (F := Ideal) FTy.f32 v = ((v.toInt : ℝ) : EReal) := fun _ => rfl
  simp only [hg, hf, sum_coe, c_511, c_four]
  simp only [fun a : ℝ => div_coe a (b := 511) (by norm_num), sum_coe, fun a : ℝ => div_coe a (b := 4) (by norm_num)]
  unfold value
  rw [← Finset.sum_div, div_div]
  norm_num

end Cert.Proof.Neighbours

end
-- ==== Proof.Values.lean ====
/-
  The eight results of the kernel are the eight results of the reference, as functions of the arguments: each pair has the
  same value at every index, by the modules before this one.
-/
module

public import proofs.«01_k».proof.Proof.KernelRun
public import proofs.«01_k».proof.Proof.RefTerms
public import proofs.«01_k».proof.Proof.Inputs
public import proofs.«01_k».proof.Proof.Bmu
public import proofs.«01_k».proof.Proof.Smooth
public import proofs.«01_k».proof.Proof.Near
public import proofs.«01_k».proof.Proof.Moved
public import proofs.«01_k».proof.Proof.Neighbours
public import Idealize.ShloMosaic.Lib.Pointwise

@[expose] public section

set_option maxRecDepth 16384

noncomputable section

namespace Cert.Proof.Values

open Cert.KernelIdeal Cert.KernelIdeal.Gen Cert.Proof.Steps
open Idealize.ShloMosaic Idealize.ShloMosaic.TcCoe

/-- The three arguments hold the reals `Z`, `N` and `T`, none of them above a million; of the weights, the last 512. -/
structure Holds (z : FVec Ideal S4x512x64 .f32) (n : FVec Ideal S16x32x64 .f32) (w : FVec Ideal S1x3500x1 .f32)
    (Z : Fin 4 → Fin 512 → Fin 64 → ℝ) (N : Fin 512 → Fin 64 → ℝ) (T : Fin 512 → ℝ) : Prop where
  z : ∀ b t k, z (ValueIdx.ix3 b t k) = ((Z b t k : ℝ) : EReal)
  n : ∀ (j : Fin 512) (k : Fin 64), n (ValueIdx.ix3 ⟨j / 32, by omega⟩ ⟨j % 32, by omega⟩ k) = ((N j k : ℝ) : EReal)
  w : ∀ t : Fin 512, w (ValueIdx.ix3 0 ⟨2988 + t, by omega⟩ 0) = ((T t : ℝ) : EReal)
  zb : ∀ b t k, |Z b t k| ≤ 1000000
  nb : ∀ j k, |N j k| ≤ 1000000
  wb : ∀ t, |T t| ≤ 1000000

/-- Under the precondition they do. -/
theorem exists_holds (z : FVec Ideal S4x512x64 .f32) (n : FVec Ideal S16x32x64 .f32) (w : FVec Ideal S1x3500x1 .f32)
    (h : Cert.Pre_bounded.fn (F := Ideal) z n w = fun _ => 1#1) : ∃ Z N T, Holds z n w Z N T := by
  obtain ⟨hz, hn, hw⟩ := Inputs.entries h
  choose Z hZ using hz
  choose N hN using hn
  choose T hT using hw
  exact ⟨fun b t k => Z (ValueIdx.ix3 b t k), fun j k => N (ValueIdx.ix3 ⟨j / 32, by omega⟩ ⟨j % 32, by omega⟩ k),
    fun t => T (ValueIdx.ix3 0 ⟨2988 + t, by omega⟩ 0), fun _ _ _ => (hZ _).1, fun _ _ => (hN _).1, fun _ => (hT _).1,
    fun _ _ _ => (hZ _).2, fun _ _ => (hN _).2, fun _ => (hT _).2⟩

variable {z : FVec Ideal S4x512x64 .f32} {n : FVec Ideal S16x32x64 .f32} {w : FVec Ideal S1x3500x1 .f32}
  {Z : Fin 4 → Fin 512 → Fin 64 → ℝ} {N : Fin 512 → Fin 64 → ℝ} {T : Fin 512 → ℝ} (H : Holds z n w Z N T)
include H

/-- The nodes as the kernel's table. -/
theorem nodes (j : Fin 512) (k : Fin 64) : KernelRun.nodes₂ (F := Ideal) n (ValueIdx.ix2 j k) = ((N j k : ℝ) : EReal) := by
  pointwise [KernelRun.nodes₂]
  exact H.n j k

/-- The nodes as the reference's table. -/
theorem flat_nodes (j : Fin 512) (k : Fin 64) : RefTerms.flatNodes (F := Ideal) n (ValueIdx.ix2 j k) = ((N j k : ℝ) : EReal) :=
  nodes H j k

/-- The weights as the kernel's column. -/
theorem weights (t : Fin 512) : KernelRun.weights₂ (F := Ideal) w (ValueIdx.ix2 t 0) = ((T t : ℝ) : EReal) := by
  pointwise [KernelRun.weights₂]
  exact H.w t

/-- The distances: the kernel's -/
theorem kernel_dist (i : Fin 2048) (j : Fin 512) :
    KernelRun.kDist (F := Ideal) z (KernelRun.nodes₂ n) (KernelRun.weights₂ w) (ValueIdx.ix2 i j) = ((Dist.dist Z N T i j : ℝ) : EReal) :=
  Dist.kernel z _ _ H.z (nodes H) (weights H) i j

/-- and the reference's. -/
theorem ref_dist (i : Fin 2048) (j : Fin 512) : RefTerms.dists (F := Ideal) z n w (ValueIdx.ix2 i j) = ((Dist.dist Z N T i j : ℝ) : EReal) :=
  Dist.reference z n w H.z H.n H.w i j

/-- The nearest nodes: the kernel's column -/
theorem kernel_near (i : Fin 2048) : KernelRun.kNear (F := Ideal) z (KernelRun.nodes₂ n) (KernelRun.weights₂ w) (ValueIdx.ix2 i 0)
    = BitVec.ofNat 32 (Near.best (Dist.dist Z N T i) : ℕ) :=
  Near.kernel _ (kernel_dist H) i

/-- and the reference's array. -/
theorem ref_near (b : Fin 4) (t : Fin 512) : RefTerms.nearest (F := Ideal) (RefTerms.dists z n w) (ValueIdx.ix2 b t)
    = BitVec.ofNat 32 (Near.best (Dist.dist Z N T (at' b t)) : ℕ) :=
  (Bmu.reference _ b t).trans (Near.reference_flat _ (ref_dist H) _)

/-- The reference's soft assignments. -/
theorem ref_soft (i : Fin 2048) (j : Fin 512) : RefTerms.normalised (F := Ideal) (RefTerms.student (RefTerms.dists z n w)) (ValueIdx.ix2 i j)
    = ((Assign.soft (Dist.dist Z N T) i j : ℝ) : EReal) :=
  Assign.reference (Dist.dist_nonneg Z N T) _ (ref_dist H) i j

/-- Result 1, the moved rows. -/
theorem som : KernelRun.kSom (F := Ideal) z (KernelRun.nodes₂ n) (KernelRun.weights₂ w)
    = RefTerms.moved (F := Ideal) z (RefTerms.flatNodes n) (RefTerms.nearest (RefTerms.dists z n w)) := by
  funext y
  obtain ⟨b, t, k, rfl⟩ : ∃ (b : Fin 4) (t : Fin 512) (k : Fin 64), y = ValueIdx.ix3 b t k := ⟨y 0, y 1, y 2, ValueIdx.eq_ix3 y⟩
  exact (Moved.kernel z _ _ H.z (nodes H) (kernel_near H) b t k).trans (Moved.reference z _ _ H.z (flat_nodes H) (ref_near H) b t k).symm

/-- Result 3, the divergence. -/
theorem kl (i) : KernelRun.kKl (F := Ideal) z (KernelRun.nodes₂ n) (KernelRun.weights₂ w)
    = RefTerms.divergence (F := Ideal) (RefTerms.normalised (RefTerms.sharpened (RefTerms.normalised (RefTerms.student (RefTerms.dists z n w)))))
        (RefTerms.normalised (RefTerms.student (RefTerms.dists z n w))) i := by
  have hD := Dist.dist_nonneg Z N T
  have hR := Inputs.eps_le_rowSum hD (Inputs.dist_le H.zb H.nb H.wb)
  rw [KernelRun.kKl, Kl.kernel hD hR _ _ _ (Assign.kernel_shifted hD _ _ _ (kernel_dist H)) (Assign.kernel_floored hD _ _ _ (kernel_dist H))
    (Assign.kernel hD _ _ _ (kernel_dist H))]
  exact (Kl.reference hD hR _ (ref_soft H) i).symm

/-- Result 4, the diversity. -/
theorem div (i) : KernelRun.kDiv (F := Ideal) (KernelRun.nodes₂ n) = RefTerms.diversity (F := Ideal) (RefTerms.flatNodes n) i :=
  (Diversity.kernel _ (nodes H)).trans (Diversity.reference _ (flat_nodes H) i).symm

/-- Result 5, the smoothness. -/
theorem ts (i) : KernelRun.kTs (F := Ideal) z = RefTerms.smoothness (F := Ideal) z i :=
  (Smooth.kernel z H.z).trans (Smooth.reference z H.z i).symm

/-- Result 6, the neighbour consistency. -/
theorem nb (i) : KernelRun.kNb (F := Ideal) z (KernelRun.nodes₂ n) (KernelRun.weights₂ w)
    = RefTerms.consistency (F := Ideal) (RefTerms.coordSteps (RefTerms.nearest (RefTerms.dists z n w))) i :=
  (Neighbours.kernel _ (kernel_near H)).trans (Neighbours.reference _ (ref_near H) i).symm

/-- Result 7, the soft assignments. -/
theorem q : KernelRun.kQ (F := Ideal) z (KernelRun.nodes₂ n) (KernelRun.weights₂ w)
    = RefTerms.normalised (F := Ideal) (RefTerms.student (RefTerms.dists z n w)) := by
  funext y
  obtain ⟨i, j, rfl⟩ : ∃ (i : Fin 2048) (j : Fin 512), y = ValueIdx.ix2 i j := ⟨y 0, y 1, ValueIdx.eq_ix2 y⟩
  exact (Assign.kernel (Dist.dist_nonneg Z N T) _ _ _ (kernel_dist H) i j).trans (ref_soft H i j).symm

/-- Result 8, the nearest nodes. -/
theorem bmu : KernelRun.kBmu (F := Ideal) z (KernelRun.nodes₂ n) (KernelRun.weights₂ w)
    = RefTerms.nearest (F := Ideal) (RefTerms.dists z n w) := by
  funext y
  obtain ⟨b, t, rfl⟩ : ∃ (b : Fin 4) (t : Fin 512), y = ValueIdx.ix2 b t := ⟨y 0, y 1, ValueIdx.eq_ix2 y⟩
  exact (Bmu.kernel z _ _ b t).trans ((kernel_near H _).trans (ref_near H b t).symm)

omit H in
/-- A scalar stored as a one-by-one array and reshaped is the scalar. -/
theorem scalar (x : EReal) (f : FVec Ideal S_ .f32) (h : ∀ i, x = f i) :
    shapeCast S_ (broadcast S1x1 x : FVec Ideal S1x1 .f32) shapeCasts_S1x1_S_ = f :=
  funext fun i => h i

/-- Result 2, the weighted sum of the four losses. -/
theorem total (kl' dv' ts' nb' : FVec Ideal S_ .f32)
    (hk : ∀ i, KernelRun.kKl (F := Ideal) z (KernelRun.nodes₂ n) (KernelRun.weights₂ w) = kl' i)
    (hd : ∀ i, KernelRun.kDiv (F := Ideal) (KernelRun.nodes₂ n) = dv' i)
    (ht : ∀ i, KernelRun.kTs (F := Ideal) z = ts' i)
    (hn : ∀ i, KernelRun.kNb (F := Ideal) z (KernelRun.nodes₂ n) (KernelRun.weights₂ w) = nb' i) :
    shapeCast S_ (KernelRun.kTotal (F := Ideal) z (KernelRun.nodes₂ n) (KernelRun.weights₂ w)) shapeCasts_S1x1_S_
      = RefTerms.total (F := Ideal) kl' dv' ts' nb' := by
  refine scalar _ _ fun i => ?_
  have e : RefTerms.total (F := Ideal) kl' dv' ts' nb' i
      = Scalar.addf (F := Ideal) (φ := .f32) (Scalar.addf (Scalar.addf (kl' i) (Scalar.mulf (Scalar.ofBits .f32 0x3F000000#32) (dv' i)))
          (Scalar.mulf (Scalar.ofBits .f32 0x3E99999A#32) (ts' i))) (Scalar.mulf (Scalar.ofBits .f32 0x3E4CCCCD#32) (nb' i)) := rfl
  rw [e, ← hk, ← hd, ← ht, ← hn]
  rfl

end Cert.Proof.Values

end
-- ==== Proof.Algebraic.lean ====
/-
  The value claim: from arguments under the precondition, the kernel and the reference both run, in exact arithmetic, and
  leave the same eight results. The runs are Proof/KernelRun.lean and Proof/RefRun.lean; that the results are the same
  functions of the arguments is Proof/Values.lean.
-/
module

public import proofs.«01_k».proof.Defs
public import proofs.«01_k».proof.Proof.Values
public import proofs.«01_k».proof.Proof.RefRun

@[expose] public section

set_option maxRecDepth 16384

noncomputable section

namespace Cert.Proof.Algebraic

open Idealize.ShloMosaic Idealize.ShloMosaic.TcCoe Idealize.ShloMosaic.StableHlo Idealize.SL.Sem
open Cert.Proof.KernelRun (kSom kTotal kKl kDiv kTs kNb kQ kBmu zz nn ww)
open Cert.KernelIdeal.Gen (k0_pay1 k0_pay2 k0_pay3 k0_pay4)

section Shapes

open Cert.KernelIdeal Cert.KernelIdeal.Gen

/-- A one-by-one array reshapes to a scalar. -/
theorem reshapes : S1x1.ShapeCasts S_ := shapeCasts_S1x1_S_

end Shapes

section Reference

open Cert.ReferenceIdeal Cert.Proof.RefOps

variable {V : RefRun.Store Ideal} {Z : Fin 4 → Fin 512 → Fin 64 → ℝ} {N : Fin 512 → Fin 64 → ℝ} {T : Fin 512 → ℝ}
  (H : Values.Holds (V (Proc.devRef .tc main_arg0)) (V (Proc.devRef .tc main_arg1)) (V (Proc.devRef .tc main_arg2)) Z N T)
include H

/-- After the reference, each of its eight result buffers holds what the kernel's run leaves, of the same arguments. -/
theorem after_reference :
    after ops V (Proc.devRef .tc main_v116) = kSom (F := Ideal) (V (Proc.devRef .tc main_arg0))
        (KernelRun.nodes₂ (V (Proc.devRef .tc main_arg1))) (KernelRun.weights₂ (V (Proc.devRef .tc main_arg2)))
    ∧ after ops V (Proc.devRef .tc main_v103) = shapeCast Cert.KernelIdeal.S_ (kTotal (F := Ideal) (V (Proc.devRef .tc main_arg0))
        (KernelRun.nodes₂ (V (Proc.devRef .tc main_arg1))) (KernelRun.weights₂ (V (Proc.devRef .tc main_arg2)))) reshapes
    ∧ after ops V (Proc.devRef .tc main_v52) = shapeCast Cert.KernelIdeal.S_ (k0_pay1 (F := Ideal) (kKl (V (Proc.devRef .tc main_arg0))
        (KernelRun.nodes₂ (V (Proc.devRef .tc main_arg1))) (KernelRun.weights₂ (V (Proc.devRef .tc main_arg2))))) reshapes
    ∧ after ops V (Proc.devRef .tc main_v69) = shapeCast Cert.KernelIdeal.S_ (k0_pay2 (F := Ideal) (kDiv
        (KernelRun.nodes₂ (V (Proc.devRef .tc main_arg1))))) reshapes
    ∧ after ops V (Proc.devRef .tc main_v76) = shapeCast Cert.KernelIdeal.S_ (k0_pay3 (F := Ideal) (kTs (V (Proc.devRef .tc main_arg0)))) reshapes
    ∧ after ops V (Proc.devRef .tc main_v97) = shapeCast Cert.KernelIdeal.S_ (k0_pay4 (F := Ideal) (kNb (V (Proc.devRef .tc main_arg0))
        (KernelRun.nodes₂ (V (Proc.devRef .tc main_arg1))) (KernelRun.weights₂ (V (Proc.devRef .tc main_arg2))))) reshapes
    ∧ after ops V (Proc.devRef .tc main_v32) = kQ (F := Ideal) (V (Proc.devRef .tc main_arg0))
        (KernelRun.nodes₂ (V (Proc.devRef .tc main_arg1))) (KernelRun.weights₂ (V (Proc.devRef .tc main_arg2)))
    ∧ after ops V (Proc.devRef .tc main_v46) = kBmu (F := Ideal) (V (Proc.devRef .tc main_arg0))
        (KernelRun.nodes₂ (V (Proc.devRef .tc main_arg1))) (KernelRun.weights₂ (V (Proc.devRef .tc main_arg2))) :=
  ⟨(RefRun.at_moved V).trans (Values.som H).symm,
    (RefRun.at_total V).trans (Values.total H _ _ _ _ (Values.kl H) (Values.div H) (Values.ts H) (Values.nb H)).symm,
    (RefRun.at_kl V).trans (Values.scalar _ _ (Values.kl H)).symm,
    (RefRun.at_dv V).trans (Values.scalar _ _ (Values.div H)).symm,
    (RefRun.at_ts V).trans (Values.scalar _ _ (Values.ts H)).symm,
    (RefRun.at_nb V).trans (Values.scalar _ _ (Values.nb H)).symm,
    (RefRun.at_q V).trans (Values.q H).symm,
    (RefRun.at_nearest V).trans (Values.bmu H).symm⟩

end Reference

/-- The kernel computes the reference's eight results. -/
theorem algebraic : Cert.algebraic_KernelIdeal_ReferenceIdeal_pre_bounded := by
  intro m g m' g' hpre hargs
  refine ⟨fun c => kSom (zz m c) (nn m c) (ww m c), fun c => shapeCast Cert.KernelIdeal.S_ (kTotal (zz m c) (nn m c) (ww m c)) reshapes,
    fun c => shapeCast Cert.KernelIdeal.S_ (k0_pay1 (kKl (zz m c) (nn m c) (ww m c))) reshapes,
    fun c => shapeCast Cert.KernelIdeal.S_ (k0_pay2 (kDiv (nn m c))) reshapes, fun c => shapeCast Cert.KernelIdeal.S_ (k0_pay3 (kTs (zz m c))) reshapes,
    fun c => shapeCast Cert.KernelIdeal.S_ (k0_pay4 (kNb (zz m c) (nn m c) (ww m c))) reshapes, fun c => kQ (zz m c) (nn m c) (ww m c),
    fun c => kBmu (zz m c) (nn m c) (ww m c),
    (θ_run (Cert.KernelIdeal.defs (F := Ideal)) _ _).mono (fun r h => h.1) (KernelRun.run (F := Ideal) m g), ?_⟩
  refine (θ_run Cert.ReferenceIdeal.defs _ _).mono (fun r h c => ?_) (RefRun.run_all (F := Ideal) m' g')
  have h := h c
  obtain ⟨hz, hn, hw⟩ := hargs c
  have e0 : launchContents m' c (Proc.devRef .tc Cert.ReferenceIdeal.main_arg0) = zz m c := hz
  have e1 : launchContents m' c (Proc.devRef .tc Cert.ReferenceIdeal.main_arg1) = m (c.tc.loc Cert.KernelIdeal.main_arg1) := hn
  have e2 : launchContents m' c (Proc.devRef .tc Cert.ReferenceIdeal.main_arg2) = m (c.tc.loc Cert.KernelIdeal.main_arg2) := hw
  obtain ⟨Z, N, T, H⟩ := Values.exists_holds _ _ _ (hpre c)
  have R := after_reference (V := launchContents m' c) (Z := Z) (N := N) (T := T) (by rw [e0, e1, e2]; exact H)
  rw [e0, e1, e2] at R
  obtain ⟨r0, r1, r2, r3, r4, r5, r6, r7⟩ := R
  exact ⟨(h _).trans r0, (h _).trans r1, (h _).trans r2, (h _).trans r3, (h _).trans r4, (h _).trans r5, (h _).trans r6, (h _).trans r7,
    (h _).trans (RefRun.at_arg _ _ (by simp)), (h _).trans (RefRun.at_arg _ _ (by simp)), (h _).trans (RefRun.at_arg _ _ (by simp))⟩

end Cert.Proof.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim: the frames, under no precondition and under the bound on the inputs; that idealizing keeps the kernel's
    program; and that the kernel computes the reference's eight results. -/
theorem claim : Cert.Claim :=
  ⟨Cert.Kernel.Gen.facts, Cert.KernelIdeal.Gen.facts, Cert.ReferenceIdeal.Gen.facts, Inputs.facts,
    Frames.frame_P, Frames.frame_PI, fun m ρ _ => Frames.frame_PI m ρ trivial, Frames.frame_RI,
    fun m ρ _ => Frames.frame_RI m ρ trivial, trivial, Algebraic.algebraic⟩

end Cert.Proof

end
